-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x256 : Shape := ⟨2, ![10000, 256]⟩
abbrev S160000x16 : Shape := ⟨2, ![160000, 16]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S160000x16 .f32) (main_arg2 : FVec F S10000x10000 .f32) (main_arg3 : FVec F S256x256 .f32) (main_arg4 : FVec F S256 .f32) (main_arg5 : FVec F S256x64 .f32) (main_arg6 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg2
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S160000x16 : Shape := ⟨2, ![160000, 16]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S1x64 : Shape := ⟨2, ![1, 64]⟩
abbrev S64x256 : Shape := ⟨2, ![64, 256]⟩
abbrev S128x10000 : Shape := ⟨2, ![128, 10000]⟩
abbrev S512x10000 : Shape := ⟨2, ![512, 10000]⟩
abbrev S64x512 : Shape := ⟨2, ![64, 512]⟩
abbrev S10240x64 : Shape := ⟨2, ![10240, 64]⟩
abbrev S512x256 : Shape := ⟨2, ![512, 256]⟩
abbrev S512x64 : Shape := ⟨2, ![512, 64]⟩
abbrev S10000x64 : Shape := ⟨2, ![10000, 64]⟩
abbrev S512 : Shape := ⟨1, ![512]⟩
abbrev S512x1 : Shape := ⟨2, ![512, 1]⟩
abbrev S64x10000 : Shape := ⟨2, ![64, 10000]⟩

abbrev nBuf : Space → Nat
  | .hbm => 13
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S160000x16, .f32⟩
  | .hbm, ⟨2, _⟩ => ⟨S10000x10000, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x256, .f32⟩
  | .hbm, ⟨8, _⟩ => ⟨S1x64, .f32⟩
  | .hbm, ⟨9, _⟩ => ⟨S64x256, .f32⟩
  | .hbm, ⟨10, _⟩ => ⟨S128x10000, .f32⟩
  | .hbm, ⟨11, _⟩ => ⟨S64x10000, .f32⟩
  | .hbm, ⟨12, _⟩ => ⟨S10000x64, .f32⟩
  | .local _ .vmem, ⟨0, _⟩ => ⟨S512x10000, .f32⟩
  | .local _ .vmem, ⟨1, _⟩ => ⟨S512x10000, .f32⟩
  | .local _ .vmem, ⟨2, _⟩ => ⟨S10000x256, .f32⟩
  | .local _ .vmem, ⟨3, _⟩ => ⟨S256x256, .f32⟩
  | .local _ .vmem, ⟨4, _⟩ => ⟨S64x256, .f32⟩
  | .local _ .vmem, ⟨5, _⟩ => ⟨S1x256, .f32⟩
  | .local _ .vmem, ⟨6, _⟩ => ⟨S1x64, .f32⟩
  | .local _ .vmem, ⟨7, _⟩ => ⟨S64x512, .f32⟩
  | .local _ .vmem, ⟨8, _⟩ => ⟨S64x512, .f32⟩
  | .local _ .vmem, ⟨9, _⟩ => ⟨S10240x64, .bf16⟩
  | .local _ .vmem, ⟨10, _⟩ => ⟨S256x256, .bf16⟩
  | .local _ .vmem, ⟨11, _⟩ => ⟨S64x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c512_i32 : BitVec 32 := 512#32
  let v30 : BitVec 32 := Scalar.muli arg1 c512_i32
  let v31 : Index := Scalar.indexCast v30
  let c0_18 : Index := 0#32
  ![v31.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg0 arg1
  let c0_i32 : BitVec 32 := 0#32
  ![v0.toNat, v1.toNat]

abbrev stage0_0 : Fin 2 → Memref sig .tc .vmem S512x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S10000x256 : Shape := ⟨2, ![10000, 256]⟩
abbrev S160000x16 : Shape := ⟨2, ![160000, 16]⟩
abbrev S10000x10000 : Shape := ⟨2, ![10000, 10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000x16, .f32⟩
  | .hbm, ⟨2, _⟩ => ⟨S10000x10000, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S10000x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .i1⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x64, .f32⟩
  | .hbm, ⟨20, _⟩ => ⟨S10000x64, .f32⟩
  | .hbm, ⟨21, _⟩ => ⟨S1x64, .f32⟩
  | .hbm, ⟨22, _⟩ => ⟨S10000x64, .f32⟩
  | .hbm, ⟨23, _⟩ => ⟨S10000x64, .f32⟩
  | .hbm, ⟨24, _⟩ => ⟨S_, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x1, .f32⟩
  | .hbm, ⟨37, _⟩ => ⟨S10000x64, .f32⟩
  | .hbm, ⟨38, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v15 : Ref sig .tc := ⟨.hbm, 38, rfl⟩

abbrev nD : Nat := 1
abbrev τ : Topo := Topo.v7x

variable {F : FTy → Type} [FloatOps F]
-- ==== Proof.FrameIdeal.lean ====
/-
  The frame of `KernelIdeal`: whatever the float values are, a run of the program ends, faults nowhere, leaves its argument arrays as
  they were and every semaphore counter at zero.

  Nothing is said here of what the kernel computes, so every staging buffer and every scratch array is held at some contents before
  and after each grid point (all seven windows are forgotten). The body then runs from any contents to some contents, in each of
  the three kinds of point: the first point, a later point of phase 0, a point of phase 1.
-/
module

public import proofs.«01_k».proof.Proof.Gen.KernelIdeal.Frame
public import proofs.«01_k».proof.Proof.Gen.KernelIdeal.Skeleton
public import proofs.«01_k».proof.Defs

@[expose] public section

set_option maxRecDepth 16384

noncomputable section

namespace Cert.Proof.KernelIdealFrame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some contents of memref `M` on core `c`. -/
abbrev some_ (c : Dev nD) {sp : Space} {S : Shape} {e : EltTy} (M : Memref sig .tc sp S e) : sProp 𝕄 :=
  iprop(∃ X : S.Idx → Elt F e, owns (c : Thread nD τ) M fullShare X)

/-- Some contents of a scratch buffer on core `c`. -/
abbrev scr (c : Dev nD) (b : Ref sig .tc) : sProp 𝕄 :=
  iprop(∃ f : Buf (Elt F) ((Memref.whole b).view.loc (c : Thread nD τ)), (Memref.whole b).view.loc (c : Thread nD τ) ↦{fullShare} f)

/-- A memref held at any contents is held at some contents, read through it. -/
theorem some_intro (c : Dev nD) {sp : Space} {S : Shape} {e : EltTy} (M : Memref sig .tc sp S e)
    (f : Buf (Elt F) (M.view.loc (c : Thread nD τ))) :
    (M.view.loc (c : Thread nD τ) ↦[M.view.set]{fullShare} f : sProp 𝕄)
      ⊢ iprop(∃ X : S.Idx → Elt F e, ∃ f, ⌜M.view.read (Elt F) f = X⌝ ∗ M.view.loc (c : Thread nD τ) ↦[M.view.set]{fullShare} f) := by
  iintro H; iexists (M.view.read (Elt F) f); iexists f; isplitr
  · ipureintro; rfl
  · iexact H

/-- Whether grid point `i` is the first one, as the body tests it. -/
abbrev firstPoint (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- The body at any grid point, from any contents of the seven staging buffers and the three scratch arrays to some contents. -/
theorem bodyRun (c : Dev nD) (i : grid0.Coords)
    (M0 : Memref sig .tc .vmem S512x10000 .f32) (h0 : M0.IsWhole) (M1 : Memref sig .tc .vmem S10000x256 .f32) (h1 : M1.IsWhole)
    (M2 : Memref sig .tc .vmem S256x256 .f32) (h2 : M2.IsWhole) (M3 : Memref sig .tc .vmem S64x256 .f32) (h3 : M3.IsWhole)
    (M4 : Memref sig .tc .vmem S1x256 .f32) (h4 : M4.IsWhole) (M5 : Memref sig .tc .vmem S1x64 .f32) (h5 : M5.IsWhole)
    (M6 : Memref sig .tc .vmem S64x512 .f32) (h6 : M6.IsWhole) (Q : PUnit → sProp 𝕄) :
    iprop((some_ (F := F) c M0 ∗ some_ (F := F) c M1 ∗ some_ (F := F) c M2 ∗ some_ (F := F) c M3 ∗ some_ (F := F) c M4
        ∗ some_ (F := F) c M5 ∗ some_ (F := F) c M6)
        ∗ (scr (F := F) c cc0_scratch0 ∗ scr (F := F) c cc0_scratch1 ∗ scr (F := F) c cc0_scratch2)
        ∗ (iprop((some_ (F := F) c M0 ∗ some_ (F := F) c M1 ∗ some_ (F := F) c M2 ∗ some_ (F := F) c M3 ∗ some_ (F := F) c M4
            ∗ some_ (F := F) c M5 ∗ some_ (F := F) c M6)
          ∗ (scr (F := F) c cc0_scratch0 ∗ scr (F := F) c cc0_scratch1 ∗ scr (F := F) c cc0_scratch2)) -∗ Q ⟨⟩))
    ⊢ wp frame (wpE (defs₀ (F := F)) Variants.none c none) Set.univ
        (cc0__body i M0 h0 M1 h1 M2 h2 M3 h3 M4 h4 M5 h5 M6 h6 (Memref.whole cc0_scratch0) (Memref.isWhole_whole _)
          (Memref.whole cc0_scratch1) (Memref.isWhole_whole _) (Memref.whole cc0_scratch2) (Memref.isWhole_whole _)) Q := by
  rw [cc0__body_eq_skeleton]
  unfold cc0__body_skel
  unfold some_ scr owns
  iintro ⟨⟨⟨%X0, %f0, %hf0, H0⟩, ⟨%X1, %f1, %hf1, H1⟩, ⟨%X2, %f2, %hf2, H2⟩, ⟨%X3, %f3, %hf3, H3⟩, ⟨%X4, %f4, %hf4, H4⟩,
    ⟨%X5, %f5, %hf5, H5⟩, ⟨%X6, %f6, %hf6, H6⟩⟩, ⟨⟨%g0, G0⟩, ⟨%g1, G1⟩, ⟨%g2, G2⟩⟩, Hk⟩
  by_cases hc1 : firstPoint i = 1#1 <;> by_cases hc2 : k0_cond2 i = 1#1 <;> by_cases hc3 : k0_cond3 i = 1#1
  all_goals
    sl_exec (disch := first | sl_exact hc1 | sl_exact hc2 | sl_exact hc3)
    sl_step
    iapply Hk
    isplitl [H0 H1 H2 H3 H4 H5 H6]
    · isplitl [H0]; · iapply (some_intro c M0 _); iexact H0
      isplitl [H1]; · iapply (some_intro c M1 _); iexact H1
      isplitl [H2]; · iapply (some_intro c M2 _); iexact H2
      isplitl [H3]; · iapply (some_intro c M3 _); iexact H3
      isplitl [H4]; · iapply (some_intro c M4 _); iexact H4
      isplitl [H5]; · iapply (some_intro c M5 _); iexact H5
      iapply (some_intro c M6 _); iexact H6
    · isplitl [G0]; · iexists _; iexact G0
      isplitl [G1]; · iexists _; iexact G1
      iexists _; iexact G2

/-! ## The run -/

/-- The proof data: the arrays as the region finds them, every window forgotten, the scratch arrays at any contents throughout. -/
def dats (_ : Fin 1) (c : Dev nD) : Dat τ (Elt F) Unit ℕ (UR sig nD τ) ℕ cfg0 c where
  A w := V m c (Pipeline.arrRef spec0 w)
  after _ _ := Classical.arbitrary _
  Φ _ := Pipeline.ΦA spec0 c
  q _ := fullShare
  owed _ := 0

/-- The seven staging buffers of grid point `t`, each at some contents. -/
abbrev windows (c : Dev nD) (t : Fin cfg0.N) : sProp 𝕄 :=
  iprop(some_ (F := F) c (stage0_0 (cfg0.slots t 0)) ∗ some_ (F := F) c (stage0_1 (cfg0.slots t 1))
    ∗ some_ (F := F) c (stage0_2 (cfg0.slots t 2)) ∗ some_ (F := F) c (stage0_3 (cfg0.slots t 3))
    ∗ some_ (F := F) c (stage0_4 (cfg0.slots t 4)) ∗ some_ (F := F) c (stage0_5 (cfg0.slots t 5))
    ∗ some_ (F := F) c (stage0_6 (cfg0.slots t 6)))

/-- The body's obligation with every window forgotten. -/
theorem body_obligation (c : Dev nD) :
    BodyObligationLoose (dats m 0 c) (defs₀ (F := F)) Variants.none () Set.univ (fun _ => true) := fun t => by
  rw [bigSep_W0]
  change iprop(Pipeline.ΦA spec0 c ∗ (dats m 0 c).owesAt () t.castSucc ∗ windows (F := F) c t)
    ⊢ wp frame (wpE (defs₀ (F := F)) Variants.none c none) Set.univ (bodyAt0 t)
        fun _ => iprop(Pipeline.ΦA spec0 c ∗ (dats m 0 c).owesAt () t.castSucc ∗ windows (F := F) c t)
  unfold Pipeline.ΦA
  rw [scopedRest0_eq]
  iintro ⟨⟨HS, HP⟩, Ho, HW⟩
  iapply (bodyRun (F := F) c (grid0.coords t) _ (hstage0_0 (cfg0.slots t 0)) _ (hstage0_1 (cfg0.slots t 1)) _ (hstage0_2 (cfg0.slots t 2))
    _ (hstage0_3 (cfg0.slots t 3)) _ (hstage0_4 (cfg0.slots t 4)) _ (hstage0_5 (cfg0.slots t 5)) _ (hstage0_6 (cfg0.slots t 6)))
  isplitl [HW]; · iexact HW
  isplitl [HS]; · iexact HS
  iintro ⟨HW, HS⟩
  isplitl [HS HP]
  · isplitl [HS] <;> iassumption
  isplitl [Ho]; · iexact Ho
  iexact HW

/-- The buffers that the lines after the region write. -/
abbrev T : Finset (Ref sig .tc) := {main_v4, main_v5}

theorem sfx_writes : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  subst hops
  simp only [hostOps1, List.mem_cons, List.mem_nil_iff, or_false] at hop
  rcases hop with rfl | rfl <;> simp only [StableHlo.unary_writes, Finset.mem_singleton] at hb <;>
    rw [Proc.devRef_injective (τ := τ) .tc hb] <;> decide

set_option backward.isDefEq.respectTransparency.types false in
/-- The run at any float values. -/
theorem run : θ_run (defs (F := F)) (onTc (τ := τ) (main (F := F))) ⟨m, fun _ => 0, ρ⟩ (fun r =>
    RDat.FramePostR cfg0 (fun c => (dats m 0 c).toRForget fun _ => true) T (fun c b => V m c b) r ∧ r.2.sem = fun _ => 0) :=
  Pipeline.θ_run_frame_around_T_forget cfgs (dats m) 0 launch0 defs₀ Variants.none (fun _ => true) T m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := fun _ _ => rfl) (hΦ := fun _ _ => rfl) _ (fun _ h => h)

end Cert.Proof.KernelIdealFrame

namespace Cert.Proof

open Idealize.ShloMosaic Idealize.SL.Sem
open Cert.KernelIdeal Cert.KernelIdeal.Gen

/-- The frame claim of `KernelIdeal`. -/
theorem frame_KernelIdeal : Cert.quiescent_KernelIdeal := by
  intro m ρ _
  refine (θ_run _ _ _).mono (fun r h => ⟨fun c => ?_, h.2⟩) (KernelIdealFrame.run (F := Ideal) m ρ)
  have harr : ∀ w, (cfg0.win w).isOut = false → r.2.mem ((cfg0.spec w).arr.view.loc (c.tc : Thread nD τ)) = V m c (Pipeline.arrRef spec0 w) :=
    fun w hw => by
      have := (h.1 c).1 w
      rw [Pipeline.RDat.ArrAt_in _ w hw] at this
      exact this
  have hrest : ∀ b ∈ Pipeline.restRefs sig spec0 \ KernelIdealFrame.T, r.2.mem ((c.tc : Thread nD τ).loc b) = V m c b := (h.1 c).2
  refine ⟨(harr 1 rfl).trans (V_main_arg0 m c), (hrest main_arg1 ?_).trans (V_main_arg1 m c), (harr 0 rfl).trans (V_main_arg2 m c),
    (harr 2 rfl).trans (V_main_arg3 m c), (hrest main_arg4 ?_).trans (V_main_arg4 m c), (hrest main_arg5 ?_).trans (V_main_arg5 m c),
    (hrest main_arg6 ?_).trans (V_main_arg6 m c)⟩
  all_goals exact Finset.mem_sdiff.mpr ⟨Pipeline.mem_restRefs_of _ (by decide) (by decide), by decide⟩

end Cert.Proof

end
-- ==== Proof.Pure.lean ====
/-
  The kernel's arithmetic at the ideal values, read at one index. A stored row of either phase is a function of the same row of
  the adjacency block, which is what makes the rows past the array's end, whose contents nobody knows, harmless.
-/
module

public import proofs.«01_k».proof.Proof.Gen.KernelIdeal.Skeleton
public import Idealize.ShloMosaic.Lib.Pointwise

@[expose] public section

set_option maxRecDepth 16384

noncomputable section

namespace Cert.Proof.Pure

open Idealize.ShloMosaic Idealize.ShloMosaic.TcCoe Idealize.SL.Sem
open Cert.KernelIdeal Cert.KernelIdeal.Gen

/-- The negative slope of the activation. -/
abbrev slope : EReal := Ideal.ofBits .f32 0x3E4CCCCD#32

/-- The activation: the identity from zero up, multiplication by the slope below. -/
def leaky (u : EReal) : EReal := if 0 ≤ u then u else slope * u

/-- One entry of the first layer before its bias, as the kernel brackets it: the row of `adj @ x` times a column of the weights. -/
def mixRow (a : Fin 10000 → EReal) (x : FVec Ideal S10000x256 .f32) (w0 : FVec Ideal S256x256 .f32) (k : Fin 256) : EReal :=
  ∑ l : Fin 256, (∑ n : Fin 10000, a n * x (ix2 n l)) * w0 (ix2 l k)

/-- One entry of the array phase 0 leaves, from the first layer's entries `g` before their bias. -/
def zEntry (g : Fin 256 → EReal) (b0 : FVec Ideal S1x256 .f32) (w1t : FVec Ideal S64x256 .f32) (q : Fin 64) : EReal :=
  ∑ k : Fin 256, leaky (g k + b0 (ix2 0 k)) * w1t (ix2 q k)

/-- One entry of the second layer before the softmax. -/
def hEntry (a : Fin 10000 → EReal) (z : Fin 10000 → Fin 64 → EReal) (b1 : FVec Ideal S1x64 .f32) (q : Fin 64) : EReal :=
  (∑ n : Fin 10000, a n * z n q) + b1 (ix2 0 q)

/-- The value a maximum starts from. -/
abbrev negInf : EReal := Ideal.ofBits .f32 0xFF800000#32

/-- The logarithm of the softmax of a row of 64 entries. -/
def logSoftmax (h : Fin 64 → EReal) (q : Fin 64) : EReal :=
  (h q - Finset.univ.fold max negInf h) - Ideal.log (∑ l : Fin 64, Ideal.exp (h l - Finset.univ.fold max negInf h))

theorem pay1_eq (w0 : FVec Ideal S256x256 .f32) : k0_pay1 (F := Ideal) w0 = w0 := by
  funext j
  pointwise [k0_pay1]

theorem pay2_eq (w1 : FVec Ideal S64x256 .f32) : k0_pay2 (F := Ideal) w1 = w1 := by
  funext j
  pointwise [k0_pay2]

theorem pay3_at (A : FVec Ideal S512x10000 .f32) (x : FVec Ideal S10000x256 .f32) (w0 : FVec Ideal S256x256 .f32)
    (b0 : FVec Ideal S1x256 .f32) (w1 : FVec Ideal S64x256 .f32) (r : Fin 512) (q : Fin 64) :
    k0_pay3 (F := Ideal) A x w0 b0 w1 (ix2 r q) = zEntry (mixRow (fun n => A (ix2 r n)) x w0) b0 w1 q := by
  pointwise [k0_pay3, zEntry, mixRow, leaky]

theorem pay4_at (A : FVec Ideal S512x10000 .f32) (z : FVec Ideal S10000x64 .bf16) (b1 : FVec Ideal S1x64 .f32)
    (r : Fin 512) (q : Fin 64) :
    k0_pay4 (F := Ideal) A z b1 (ix2 q r) = logSoftmax (hEntry (fun n => A (ix2 r n)) (fun n l => z (ix2 n l)) b1) q := by
  pointwise [k0_pay4, logSoftmax, hEntry]

end Cert.Proof.Pure

end
-- ==== Proof.Body.lean ====
/-
  What one grid point of `KernelIdeal` does to the staged blocks and the three scratch arrays, in each of the three kinds of point:
  the first point, a later point of phase 0, a point of phase 1.
-/
module

public import proofs.«01_k».proof.Proof.Gen.KernelIdeal.Frame
public import proofs.«01_k».proof.Proof.Gen.KernelIdeal.Skeleton
public import proofs.«01_k».proof.Proof.Pure
public import Idealize.ShloMosaic.Lib.VecWindow
public import Idealize.ShloMosaic.Lib.WritesUnit

@[expose] public section

set_option maxRecDepth 16384

noncomputable section

namespace Cert.Proof.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationLoose)

local notation "𝕄" => MT nD τ sig Unit (Elt Ideal) ℕ (UR sig nD τ) ℕ

/-- Whether grid point `i` is the first one, as the body tests it. -/
abbrev firstPoint (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- `g'` is `g` with the 512 rows from row `o` on replaced by `P`. -/
def stored (o : ℕ) (g : FVec Ideal S10240x64 .bf16) (P : FVec Ideal S512x64 .bf16) (g' : FVec Ideal S10240x64 .bf16) : Prop :=
  (∀ (r : Fin 512) (q : Fin 64) (h : o + r.val < 10240), g' (ix2 ⟨o + r.val, h⟩ q) = P (ix2 r q))
    ∧ ∀ (r : Fin 10240) (q : Fin 64), (r.val < o ∨ o + 512 ≤ r.val) → g' (ix2 r q) = g (ix2 r q)

/-- A buffer at contents `f`. -/
abbrev scrAt (c : Dev nD) (b : Ref sig .tc) (f : Buf (Elt Ideal) ((Memref.whole b).view.loc (c : Thread nD τ))) : sProp 𝕄 :=
  iprop((Memref.whole b).view.loc (c : Thread nD τ) ↦{fullShare} f)

/-- What a store of 512 rows leaves in the array of the first phase's results. -/
theorem stored_writes (i : grid0.Coords) (g : FVec Ideal S10240x64 .bf16) (P : FVec Ideal S512x64 .bf16)
    (inb : ∀ a, k0_off1 i a + S512x64.size a ≤ S10240x64.size a) :
    stored (k0_off1 i 0) g P ((Memref.whole cc0_scratch0).view.writes (Elt Ideal) g [⟨Rect.unit (k0_off1 i) S512x64.size inb, P⟩]) := by
  have ho : k0_off1 i = ![k0_off1 i 0, 0] := funext (Fin.forall_fin_two.mpr ⟨rfl, rfl⟩)
  generalize hL : (Memref.whole cc0_scratch0).view.writes (Elt Ideal) g [⟨Rect.unit (k0_off1 i) S512x64.size inb, P⟩] = L
  constructor
  · intro r q h
    have := View.read_writes_cons_unit_of_mem (Val := Elt Ideal) (v := (Memref.whole cc0_scratch0).view) g inb P [] (ix2 ⟨_, h⟩ q) (ix2 r q) ho
      (Fin.forall_fin_two.mpr ⟨rfl, (Nat.zero_add _).symm⟩)
    rw [hL] at this
    exact this
  · intro r q h
    have := View.read_writes_cons_unit_of_not_mem (Val := Elt Ideal) (v := (Memref.whole cc0_scratch0).view) g inb P [] (ix2 r q) ho 0 h
    rw [hL] at this
    exact this

theorem stored_intro (c : Dev nD) (i : grid0.Coords) (g : FVec Ideal S10240x64 .bf16) {P P' : FVec Ideal S512x64 .bf16} (hP : P' = P)
    {inb : ∀ a, k0_off1 i a + S512x64.size a ≤ S10240x64.size a} :
    scrAt c cc0_scratch0 ((Memref.whole cc0_scratch0).view.writes (Elt Ideal) g [⟨Rect.unit (k0_off1 i) S512x64.size inb, P'⟩])
      ⊢ iprop(∃ g' : FVec Ideal S10240x64 .bf16, ⌜stored (k0_off1 i 0) g P g'⌝ ∗ scrAt c cc0_scratch0 g') := by
  subst hP
  iintro H; iexists _; isplitr [H]
  · ipureintro; exact stored_writes i g P' inb
  · iexact H

/-- The stored rows, as the loads hand them to the payload: each load reads the whole of what it loads from. -/
theorem pay3_reads (M0 : Memref sig .tc .vmem S512x10000 .f32) (M1 : Memref sig .tc .vmem S10000x256 .f32) (M4 : Memref sig .tc .vmem S1x256 .f32)
    (f0 : M0.view.ty.Contents (Elt Ideal)) (f1 : M1.view.ty.Contents (Elt Ideal)) (f4 : M4.view.ty.Contents (Elt Ideal))
    (g1 : FVec Ideal S256x256 .bf16) (g2 : FVec Ideal S64x256 .bf16) {X0 X1 X4}
    (hf0 : M0.view.read (Elt Ideal) f0 = X0) (hf1 : M1.view.read (Elt Ideal) f1 = X1) (hf4 : M4.view.read (Elt Ideal) f4 = X4)
    {o0 o1 o2 o3 o4} {i0 i1 i2 i3 i4} :
    k0_pay3 (F := Ideal) (M0.view.readAt (Elt Ideal) (Rect.unit (s := S512x10000) o0 S512x10000.size i0).toLoadRect f0)
        (M1.view.readAt (Elt Ideal) (Rect.unit (s := S10000x256) o1 S10000x256.size i1).toLoadRect f1)
        ((Memref.whole cc0_scratch1).view.readAt (Elt Ideal) (Rect.unit (s := S256x256) o2 S256x256.size i2).toLoadRect g1)
        (M4.view.readAt (Elt Ideal) (Rect.unit (s := S1x256) o3 S1x256.size i3).toLoadRect f4)
        ((Memref.whole cc0_scratch2).view.readAt (Elt Ideal) (Rect.unit (s := S64x256) o4 S64x256.size i4).toLoadRect g2)
      = k0_pay3 X0 X1 g1 X4 g2 := by
  subst hf0 hf1 hf4
  rw [View.readAt_full M0.view, View.readAt_full M1.view, View.readAt_full M4.view]
  congr 1
  · exact View.readAt_full (Val := Elt Ideal) (Memref.whole cc0_scratch1).view g1 i2
  · exact View.readAt_full (Val := Elt Ideal) (Memref.whole cc0_scratch2).view g2 i4

/-- The same where the two weights' copies were stored at the same point. -/
theorem pay3_reads' (M0 : Memref sig .tc .vmem S512x10000 .f32) (M1 : Memref sig .tc .vmem S10000x256 .f32) (M4 : Memref sig .tc .vmem S1x256 .f32)
    (f0 : M0.view.ty.Contents (Elt Ideal)) (f1 : M1.view.ty.Contents (Elt Ideal)) (f4 : M4.view.ty.Contents (Elt Ideal))
    {G1 g1 : FVec Ideal S256x256 .bf16} {G2 g2 : FVec Ideal S64x256 .bf16} {X0 X1 X4} (e1 : G1 = g1) (e2 : G2 = g2)
    (hf0 : M0.view.read (Elt Ideal) f0 = X0) (hf1 : M1.view.read (Elt Ideal) f1 = X1) (hf4 : M4.view.read (Elt Ideal) f4 = X4)
    {o0 o1 o3} {i0 i1 i3} :
    k0_pay3 (F := Ideal) (M0.view.readAt (Elt Ideal) (Rect.unit (s := S512x10000) o0 S512x10000.size i0).toLoadRect f0)
        (M1.view.readAt (Elt Ideal) (Rect.unit (s := S10000x256) o1 S10000x256.size i1).toLoadRect f1) G1
        (M4.view.readAt (Elt Ideal) (Rect.unit (s := S1x256) o3 S1x256.size i3).toLoadRect f4) G2
      = k0_pay3 X0 X1 g1 X4 g2 := by
  subst hf0 hf1 hf4 e1 e2
  rw [View.readAt_full M0.view, View.readAt_full M1.view, View.readAt_full M4.view]

/-- A memref held at contents `f` is held at what it reads there. -/
theorem owns_intro (c : Dev nD) {sp : Space} {S : Shape} {e : EltTy} (M : Memref sig .tc sp S e)
    (f : Buf (Elt Ideal) (M.view.loc (c : Thread nD τ))) (X : S.Idx → Elt Ideal e) (h : M.view.read (Elt Ideal) f = X) :
    (M.view.loc (c : Thread nD τ) ↦[M.view.set]{fullShare} f : sProp 𝕄)
      ⊢ iprop(∃ f, ⌜M.view.read (Elt Ideal) f = X⌝ ∗ M.view.loc (c : Thread nD τ) ↦[M.view.set]{fullShare} f) := by
  iintro H; iexists f; isplitr
  · ipureintro; exact h
  · iexact H

/-- The rows of the first phase's results that phase 1 reads. -/
def top (g : FVec Ideal S10240x64 .bf16) : FVec Ideal S10000x64 .bf16 :=
  fun p => g (ix2 ⟨(p 0).val, (show (p 0).val < 10000 from (p 0).isLt).trans (by decide)⟩ (p 1))

theorem read_top (g : FVec Ideal S10240x64 .bf16) {inb : ∀ a, ![0, 0] a + S10000x64.size a ≤ S10240x64.size a} :
    (Memref.whole cc0_scratch0).view.readAt (Elt Ideal) (Rect.unit (s := S10240x64) ![0, 0] S10000x64.size inb).toLoadRect g = top g :=
  funext fun p => congrArg g (funext (Fin.forall_fin_two.mpr
    ⟨Fin.ext (show 0 + 1 * (p 0).val = (p 0).val by omega), Fin.ext (show 0 + 1 * (p 1).val = (p 1).val by omega)⟩))

/-- The stored block of the output, as the loads hand it to the payload. -/
theorem pay4_reads (M0 : Memref sig .tc .vmem S512x10000 .f32) (M5 : Memref sig .tc .vmem S1x64 .f32)
    (f0 : M0.view.ty.Contents (Elt Ideal)) (f5 : M5.view.ty.Contents (Elt Ideal)) (g : FVec Ideal S10240x64 .bf16) {X0 X5}
    (hf0 : M0.view.read (Elt Ideal) f0 = X0) (hf5 : M5.view.read (Elt Ideal) f5 = X5) {o0 o5} {i0 i5} {inb} :
    k0_pay4 (F := Ideal) (M0.view.readAt (Elt Ideal) (Rect.unit (s := S512x10000) o0 S512x10000.size i0).toLoadRect f0)
        ((Memref.whole cc0_scratch0).view.readAt (Elt Ideal) (Rect.unit (s := S10240x64) ![0, 0] S10000x64.size inb).toLoadRect g)
        (M5.view.readAt (Elt Ideal) (Rect.unit (s := S1x64) o5 S1x64.size i5).toLoadRect f5)
      = k0_pay4 X0 (top g) X5 := by
  subst hf0 hf5
  rw [View.readAt_full M0.view, View.readAt_full M5.view, read_top]

/-- A view whose whole extent has been stored reads what was stored. -/
theorem read_store {sp : Space} {n k : ℕ} {e : EltTy} (M : Memref sig .tc sp ⟨2, ![n, k]⟩ e) (f : M.view.ty.Contents (Elt Ideal))
    (P : (⟨2, ![n, k]⟩ : Shape).Idx → Elt Ideal e)
    (inb : ∀ a, ![0, 0] a + (⟨2, ![n, k]⟩ : Shape).size a ≤ (⟨2, ![n, k]⟩ : Shape).size a) :
    M.view.read (Elt Ideal) (M.view.writes (Elt Ideal) f [⟨Rect.unit ![0, 0] (⟨2, ![n, k]⟩ : Shape).size inb, P⟩]) = P :=
  funext fun y => View.read_writes_cons_unit_of_mem (Val := Elt Ideal) (v := M.view) f inb P [] y y rfl
    (Fin.forall_fin_two.mpr ⟨(Nat.zero_add _).symm, (Nat.zero_add _).symm⟩)

/-- A later point of phase 0. -/
theorem bodyB (c : Dev nD) (i : grid0.Coords)
    (M0 : Memref sig .tc .vmem S512x10000 .f32) (h0 : M0.IsWhole) (M1 : Memref sig .tc .vmem S10000x256 .f32) (h1 : M1.IsWhole)
    (M2 : Memref sig .tc .vmem S256x256 .f32) (h2 : M2.IsWhole) (M3 : Memref sig .tc .vmem S64x256 .f32) (h3 : M3.IsWhole)
    (M4 : Memref sig .tc .vmem S1x256 .f32) (h4 : M4.IsWhole) (M5 : Memref sig .tc .vmem S1x64 .f32) (h5 : M5.IsWhole)
    (M6 : Memref sig .tc .vmem S64x512 .f32) (h6 : M6.IsWhole) (Q : PUnit → sProp 𝕄)
    (X0 : FVec Ideal S512x10000 .f32) (X1 : FVec Ideal S10000x256 .f32) (X4 : FVec Ideal S1x256 .f32)
    (g0 : FVec Ideal S10240x64 .bf16) (g1 : FVec Ideal S256x256 .bf16) (g2 : FVec Ideal S64x256 .bf16)
    (hc1 : ¬ firstPoint i = 1#1) (hc2 : k0_cond2 i = 1#1) (hc3 : ¬ k0_cond3 i = 1#1) :
    iprop((owns (c : Thread nD τ) M0 fullShare X0 ∗ owns (c : Thread nD τ) M1 fullShare X1 ∗ owns (c : Thread nD τ) M4 fullShare X4)
        ∗ (scrAt c cc0_scratch0 g0 ∗ scrAt c cc0_scratch1 g1 ∗ scrAt c cc0_scratch2 g2)
        ∗ (iprop((owns (c : Thread nD τ) M0 fullShare X0 ∗ owns (c : Thread nD τ) M1 fullShare X1 ∗ owns (c : Thread nD τ) M4 fullShare X4)
          ∗ ((∃ g : FVec Ideal S10240x64 .bf16, ⌜stored (k0_off1 i 0) g0 (k0_pay3 X0 X1 g1 X4 g2) g⌝ ∗ scrAt c cc0_scratch0 g)
            ∗ scrAt c cc0_scratch1 g1 ∗ scrAt c cc0_scratch2 g2)) -∗ Q ⟨⟩))
    ⊢ wp frame (wpE (defs₀ (F := Ideal)) Variants.none c none) Set.univ
        (cc0__body i M0 h0 M1 h1 M2 h2 M3 h3 M4 h4 M5 h5 M6 h6 (Memref.whole cc0_scratch0) (Memref.isWhole_whole _)
          (Memref.whole cc0_scratch1) (Memref.isWhole_whole _) (Memref.whole cc0_scratch2) (Memref.isWhole_whole _)) Q := by
  rw [cc0__body_eq_skeleton]
  unfold cc0__body_skel
  unfold owns
  iintro ⟨⟨⟨%f0, %hf0, H0⟩, ⟨%f1, %hf1, H1⟩, ⟨%f4, %hf4, H4⟩⟩, ⟨G0, G1, G2⟩, Hk⟩
  sl_exec (disch := first | sl_exact hc1 | sl_exact hc2 | sl_exact hc3)
  sl_step
  iapply Hk
  isplitl [H0 H1 H4]
  · isplitl [H0]; · iapply (owns_intro c M0 f0 X0 hf0); iexact H0
    isplitl [H1]; · iapply (owns_intro c M1 f1 X1 hf1); iexact H1
    iapply (owns_intro c M4 f4 X4 hf4); iexact H4
  isplitl [G0]
  · iapply (stored_intro c i g0 (pay3_reads M0 M1 M4 f0 f1 f4 g1 g2 hf0 hf1 hf4)); iexact G0
  isplitl [G1]; · iexact G1
  iexact G2

set_option maxHeartbeats 800000 in
/-- The first point. -/
theorem bodyA (c : Dev nD) (i : grid0.Coords)
    (M0 : Memref sig .tc .vmem S512x10000 .f32) (h0 : M0.IsWhole) (M1 : Memref sig .tc .vmem S10000x256 .f32) (h1 : M1.IsWhole)
    (M2 : Memref sig .tc .vmem S256x256 .f32) (h2 : M2.IsWhole) (M3 : Memref sig .tc .vmem S64x256 .f32) (h3 : M3.IsWhole)
    (M4 : Memref sig .tc .vmem S1x256 .f32) (h4 : M4.IsWhole) (M5 : Memref sig .tc .vmem S1x64 .f32) (h5 : M5.IsWhole)
    (M6 : Memref sig .tc .vmem S64x512 .f32) (h6 : M6.IsWhole) (Q : PUnit → sProp 𝕄)
    (X0 : FVec Ideal S512x10000 .f32) (X1 : FVec Ideal S10000x256 .f32) (X2 : FVec Ideal S256x256 .f32) (X3 : FVec Ideal S64x256 .f32)
    (X4 : FVec Ideal S1x256 .f32) (g0 : FVec Ideal S10240x64 .bf16) (g1 : FVec Ideal S256x256 .bf16) (g2 : FVec Ideal S64x256 .bf16)
    (hc1 : firstPoint i = 1#1) (hc2 : k0_cond2 i = 1#1) (hc3 : ¬ k0_cond3 i = 1#1) :
    iprop((owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare X4)
        ∗ (scrAt c cc0_scratch0 g0 ∗ scrAt c cc0_scratch1 g1 ∗ scrAt c cc0_scratch2 g2)
        ∗ (iprop((owns (c : Thread nD τ) M0 fullShare X0 ∗ owns (c : Thread nD τ) M1 fullShare X1 ∗ owns (c : Thread nD τ) M2 fullShare X2
              ∗ owns (c : Thread nD τ) M3 fullShare X3 ∗ owns (c : Thread nD τ) M4 fullShare X4)
          ∗ ((∃ g : FVec Ideal S10240x64 .bf16, ⌜stored (k0_off1 i 0) g0 (k0_pay3 (F := Ideal) X0 X1 (k0_pay1 (F := Ideal) X2) X4 (k0_pay2 (F := Ideal) X3)) g⌝ ∗ scrAt c cc0_scratch0 g)
            ∗ scrAt c cc0_scratch1 (k0_pay1 (F := Ideal) X2) ∗ scrAt c cc0_scratch2 (k0_pay2 (F := Ideal) X3))) -∗ Q ⟨⟩))
    ⊢ wp frame (wpE (defs₀ (F := Ideal)) Variants.none c none) Set.univ
        (cc0__body i M0 h0 M1 h1 M2 h2 M3 h3 M4 h4 M5 h5 M6 h6 (Memref.whole cc0_scratch0) (Memref.isWhole_whole _)
          (Memref.whole cc0_scratch1) (Memref.isWhole_whole _) (Memref.whole cc0_scratch2) (Memref.isWhole_whole _)) Q := by
  rw [cc0__body_eq_skeleton]
  unfold cc0__body_skel
  unfold owns
  iintro ⟨⟨⟨%f0, %hf0, H0⟩, ⟨%f1, %hf1, H1⟩, ⟨%f2, %hf2, H2⟩, ⟨%f3, %hf3, H3⟩, ⟨%f4, %hf4, H4⟩⟩, ⟨G0, G1, G2⟩, Hk⟩
  sl_exec (disch := first | sl_exact hc1 | sl_exact hc2 | sl_exact hc3)
  sl_step
  iapply Hk
  have e1 : bodyA.sl.v15 c M2 f2 = k0_pay1 (F := Ideal) X2 := by
    unfold bodyA.sl.v15 bodyA.sl.G1_1
    refine (View.readCov_full (Val := Elt Ideal) (Memref.whole cc0_scratch1).view _ _ _ []).trans ?_
    rw [View.readAt_full M2.view, hf2]
  have e2 : bodyA.sl.v27 c M3 f3 = k0_pay2 (F := Ideal) X3 := by
    unfold bodyA.sl.v27 bodyA.sl.G2_1
    refine (View.readCov_full (Val := Elt Ideal) (Memref.whole cc0_scratch2).view _ _ _ []).trans ?_
    rw [View.readAt_full M3.view, hf3]
  have e3 : (Memref.whole cc0_scratch1).view.writes (Elt Ideal) g1 (bodyA.sl.G1_1 c M2 f2) = k0_pay1 (F := Ideal) X2 := by
    unfold bodyA.sl.G1_1
    refine (read_store (Memref.whole cc0_scratch1) g1 _ _).trans ?_
    rw [View.readAt_full M2.view, hf2]
  have e4 : (Memref.whole cc0_scratch2).view.writes (Elt Ideal) g2 (bodyA.sl.G2_1 c M3 f3) = k0_pay2 (F := Ideal) X3 := by
    unfold bodyA.sl.G2_1
    refine (read_store (Memref.whole cc0_scratch2) g2 _ _).trans ?_
    rw [View.readAt_full M3.view, hf3]
  isplitl [H0 H1 H2 H3 H4]
  · isplitl [H0]; · iapply (owns_intro c M0 f0 X0 hf0); iexact H0
    isplitl [H1]; · iapply (owns_intro c M1 f1 X1 hf1); iexact H1
    isplitl [H2]; · iapply (owns_intro c M2 f2 X2 hf2); iexact H2
    isplitl [H3]; · iapply (owns_intro c M3 f3 X3 hf3); iexact H3
    iapply (owns_intro c M4 f4 X4 hf4); iexact H4
  isplitl [G0]
  · iapply (stored_intro c i g0 (pay3_reads' M0 M1 M4 f0 f1 f4 e1 e2 hf0 hf1 hf4)); iexact G0
  isplitl [G1]; · rw [← e3]; iexact G1
  rw [← e4]; iexact G2

set_option maxHeartbeats 800000 in
/-- A point of phase 1. -/
theorem bodyC (c : Dev nD) (i : grid0.Coords)
    (M0 : Memref sig .tc .vmem S512x10000 .f32) (h0 : M0.IsWhole) (M1 : Memref sig .tc .vmem S10000x256 .f32) (h1 : M1.IsWhole)
    (M2 : Memref sig .tc .vmem S256x256 .f32) (h2 : M2.IsWhole) (M3 : Memref sig .tc .vmem S64x256 .f32) (h3 : M3.IsWhole)
    (M4 : Memref sig .tc .vmem S1x256 .f32) (h4 : M4.IsWhole) (M5 : Memref sig .tc .vmem S1x64 .f32) (h5 : M5.IsWhole)
    (M6 : Memref sig .tc .vmem S64x512 .f32) (h6 : M6.IsWhole) (Q : PUnit → sProp 𝕄)
    (X0 : FVec Ideal S512x10000 .f32) (X5 : FVec Ideal S1x64 .f32) (X6 : FVec Ideal S64x512 .f32)
    (g0 : FVec Ideal S10240x64 .bf16)
    (hc1 : ¬ firstPoint i = 1#1) (hc2 : ¬ k0_cond2 i = 1#1) (hc3 : k0_cond3 i = 1#1) :
    iprop((owns (c : Thread nD τ) M0 fullShare X0 ∗ owns (c : Thread nD τ) M5 fullShare X5 ∗ owns (c : Thread nD τ) M6 fullShare X6)
        ∗ scrAt c cc0_scratch0 g0
        ∗ (iprop((owns (c : Thread nD τ) M0 fullShare X0 ∗ owns (c : Thread nD τ) M5 fullShare X5
            ∗ owns (c : Thread nD τ) M6 fullShare (k0_pay4 (F := Ideal) X0 (top g0) X5))
          ∗ scrAt c cc0_scratch0 g0) -∗ Q ⟨⟩))
    ⊢ wp frame (wpE (defs₀ (F := Ideal)) Variants.none c none) Set.univ
        (cc0__body i M0 h0 M1 h1 M2 h2 M3 h3 M4 h4 M5 h5 M6 h6 (Memref.whole cc0_scratch0) (Memref.isWhole_whole _)
          (Memref.whole cc0_scratch1) (Memref.isWhole_whole _) (Memref.whole cc0_scratch2) (Memref.isWhole_whole _)) Q := by
  rw [cc0__body_eq_skeleton]
  unfold cc0__body_skel
  unfold owns
  iintro ⟨⟨⟨%f0, %hf0, H0⟩, ⟨%f5, %hf5, H5⟩, ⟨%f6, %hf6, H6⟩⟩, G0, Hk⟩
  sl_exec (disch := first | sl_exact hc1 | sl_exact hc2 | sl_exact hc3)
  sl_step
  iapply Hk
  isplitl [H0 H5 H6]
  · isplitl [H0]; · iapply (owns_intro c M0 f0 X0 hf0); iexact H0
    isplitl [H5]; · iapply (owns_intro c M5 f5 X5 hf5); iexact H5
    iapply (owns_intro c M6 _ _ ((read_store M6 f6 _ _).trans (pay4_reads M0 M5 f0 f5 g0 hf0 hf5))); iexact H6
  iexact G0

end Cert.Proof.Body
end
-- ==== Proof.Blocks.lean ====
/-
  The blocks of `KernelIdeal`'s windows at coordinates. The adjacency window's last block overhangs its array: the rows past the end
  hold whatever the staging buffer held before.
-/
module

public import proofs.«01_k».proof.Proof.Body
public import Idealize.ShloMosaic.Lib.Pipeline.ValueKit

@[expose] public section

set_option maxRecDepth 16384

noncomputable section

namespace Cert.Proof.Blocks

open Cert.KernelIdeal Cert.KernelIdeal.Gen
open Idealize.ShloMosaic Idealize.ShloMosaic.TcCoe Idealize.SL.Sem
open Idealize.ShloMosaic.Pipeline (Dat RDat)
open Cert.Proof.Body (firstPoint)

variable (m : (ℓ : Loc nD τ sig) → Buf (Elt Ideal) ℓ)

/-! ## The grid points -/

/-- Which blocks the windows hold at each point. -/
theorem idx : ∀ t : Fin cfg0.N, win0_0.index t = ![t.val % 20, 0] ∧ win0_1.index t = ![0, 0] ∧ win0_2.index t = ![0, 0]
    ∧ win0_3.index t = ![0, 0] ∧ win0_4.index t = ![0, 0] ∧ win0_5.index t = ![0, 0]
    ∧ win0_6.index t = ![1 - t.val / 20, t.val - 20] :=
  (by decide +kernel : ∀ t : Fin grid0.N, _)

/-- What the first point tests. -/
theorem at_first : ∀ t : Fin cfg0.N, t.val = 0 →
    firstPoint (grid0.coords t) = 1#1 ∧ k0_cond2 (grid0.coords t) = 1#1 ∧ ¬ k0_cond3 (grid0.coords t) = 1#1 :=
  (by decide +kernel : ∀ t : Fin grid0.N, _)

/-- What a later point of phase 0 tests. -/
theorem at_phase0 : ∀ t : Fin cfg0.N, t.val ≠ 0 → t.val < 20 →
    ¬ firstPoint (grid0.coords t) = 1#1 ∧ k0_cond2 (grid0.coords t) = 1#1 ∧ ¬ k0_cond3 (grid0.coords t) = 1#1 :=
  (by decide +kernel : ∀ t : Fin grid0.N, _)

/-- What a point of phase 1 tests. -/
theorem at_phase1 : ∀ t : Fin cfg0.N, 20 ≤ t.val →
    ¬ firstPoint (grid0.coords t) = 1#1 ∧ ¬ k0_cond2 (grid0.coords t) = 1#1 ∧ k0_cond3 (grid0.coords t) = 1#1 :=
  (by decide +kernel : ∀ t : Fin grid0.N, _)

/-- Where a point of phase 0 stores its rows. -/
theorem row_off : ∀ t : Fin cfg0.N, t.val < 20 → k0_off1 (grid0.coords t) 0 = 512 * t.val :=
  (by decide +kernel : ∀ t : Fin grid0.N, _)

/-- How much of each clipped block lies inside its array. -/
theorem sizes : ∀ t : Fin cfg0.N, win0_0.xsize (grid0.coords t) 0 = min 512 (10000 - 512 * (t.val % 20)) ∧ win0_0.xsize (grid0.coords t) 1 = 10000
    ∧ win0_6.xsize (grid0.coords t) 0 = 64 ∧ win0_6.xsize (grid0.coords t) 1 = min 512 (10000 - 512 * (t.val - 20)) :=
  (by decide +kernel : ∀ t : Fin grid0.N, _)

/-- When the result's block is written back. -/
theorem flush6 : ∀ t : Fin cfg0.N, 20 ≤ t.val → (cfg0.win 6).flush t = true :=
  (by decide +kernel : ∀ t : Fin grid0.N, _)

/-! ## The arrays as the region finds them -/

/-- The adjacency matrix; -/
abbrev adj (c : Dev nD) : FVec Ideal S10000x10000 .f32 := V m c main_arg2
/-- the features; -/
abbrev feat (c : Dev nD) : FVec Ideal S10000x256 .f32 := V m c main_arg0
/-- the first weights; -/
abbrev wt0 (c : Dev nD) : FVec Ideal S256x256 .f32 := V m c main_arg3
/-- the second weights, transposed; -/
abbrev wt1 (c : Dev nD) : FVec Ideal S64x256 .f32 := V m c main_v2
/-- the first bias, as a row; -/
abbrev bias0 (c : Dev nD) : FVec Ideal S1x256 .f32 := V m c main_v0
/-- the second bias, as a row. -/
abbrev bias1 (c : Dev nD) : FVec Ideal S1x64 .f32 := V m c main_v1

/-! ## The blocks -/

theorem blk1 (c : Dev nD) (t : Fin cfg0.N) : iblk m c 1 t = feat m c := by
  funext j
  blk_ext [iblk, idx t]

theorem blk2 (c : Dev nD) (t : Fin cfg0.N) : iblk m c 2 t = wt0 m c := by
  funext j
  blk_ext [iblk, idx t]

theorem blk3 (c : Dev nD) (t : Fin cfg0.N) : iblk m c 3 t = wt1 m c := by
  funext j
  blk_ext [iblk, idx t]

theorem blk4 (c : Dev nD) (t : Fin cfg0.N) : iblk m c 4 t = bias0 m c := by
  funext j
  blk_ext [iblk, idx t]

theorem blk5 (c : Dev nD) (t : Fin cfg0.N) : iblk m c 5 t = bias1 m c := by
  funext j
  blk_ext [iblk, idx t]

/-- The adjacency block after a fetch, over any earlier contents `d` of its buffer: row `r` is row `512 i + r` of the matrix, if the
    matrix has that row. -/
theorem blk0 (c : Dev nD) (t : Fin cfg0.N) (d : FVec Ideal S512x10000 .f32) (r : Fin 512) (n : Fin 10000)
    (h : 512 * (t.val % 20) + r.val < 10000) :
    win0_0.fill (grid0.coords t) d (iblk m c 0 t) (ix2 r n) = adj m c (ix2 ⟨512 * (t.val % 20) + r.val, h⟩ n) := by
  have hm : win0_0.moved (grid0.coords t) (ix2 r n) = true := by
    rw [win0_0.moved_iff]
    obtain ⟨h0, h1, -, -⟩ := sizes t
    refine Fin.forall_fin_two.mpr ⟨lt_of_lt_of_eq ?_ h0.symm, lt_of_lt_of_eq n.isLt h1.symm⟩
    show r.val < _
    exact lt_min r.isLt (by omega)
  unfold Pipeline.Window.fill
  rw [dif_pos hm]
  blk_ext [iblk, idx t]

/-- Index `(q, r)` of the result array, `q` below 64, lies in the block written back at point `20 + r / 512`. -/
theorem mem6 (t : Fin cfg0.N) (q : Fin 128) (r : Fin 10000) (hq : q.val < 64) (ht : t.val = 20 + r.val / 512) :
    (ix2 q r : S128x10000.Idx) ∈ ((cfg0.win 6).blk t).view.set := by
  obtain ⟨-, -, h0, h1⟩ := sizes t
  obtain ⟨-, -, -, -, -, -, h6⟩ := idx t
  mem_blk
  have e0 : win0_6.index t 0 = 1 - t.val / 20 := congrFun h6 0
  have e1 : win0_6.index t 1 = t.val - 20 := congrFun h6 1
  rw [h0, h1, e0, e1]
  show (_ ≤ q.val ∧ q.val < _) ∧ _ ≤ r.val ∧ r.val < _
  have hr := r.isLt
  have hN : t.val < 40 := lt_of_lt_of_eq t.isLt N_0
  refine ⟨⟨by omega, by omega⟩, by omega, by omega⟩

end Cert.Proof.Blocks

end
-- ==== Proof.Region.lean ====
/-
  The region of `KernelIdeal` with its values. Before grid point `n` the first scratch array holds the first `512 n` rows of the first
  layer times the second weights (all 20 blocks from point 20 on; rows past the 10000th hold anything), the other two the weights.
  At points 20 and later the body leaves a block of the final result, its lanes past the 10000th at anything; before that the result's
  staging buffer holds anything.
-/
module

public import proofs.«01_k».proof.Proof.Blocks
public import Idealize.ShloMosaic.Lib.Pipeline.DatRel

@[expose] public section

set_option maxRecDepth 16384

noncomputable section

namespace Cert.Proof.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel)
open Cert.Proof.Body Cert.Proof.Blocks Cert.Proof.Pure

local notation "𝕄" => MT nD τ sig Unit (Elt Ideal) ℕ (UR sig nD τ) ℕ

variable (m : (ℓ : Loc nD τ sig) → Buf (Elt Ideal) ℓ)

/-! ## The values -/

/-- Entry `(n, q)` of the first layer times the second weights. -/
def zVal (c : Dev nD) (n : Fin 10000) (q : Fin 64) : EReal :=
  zEntry (mixRow (fun p => adj m c (ix2 n p)) (feat m c) (wt0 m c)) (bias0 m c) (wt1 m c) q

/-- Entry `(n, q)` of the result. -/
def out (c : Dev nD) (n : Fin 10000) (q : Fin 64) : EReal :=
  logSoftmax (hEntry (fun p => adj m c (ix2 n p)) (zVal m c) (bias1 m c)) q

/-- The first scratch array holds the rows computed before point `n`. -/
def rowsUpTo (c : Dev nD) (n : ℕ) (g0 : FVec Ideal S10240x64 .bf16) : Prop :=
  ∀ (r : Fin 10240) (h : r.val < 10000) (q : Fin 64), r.val < 512 * min n 20 → g0 (ix2 r q) = zVal m c ⟨r.val, h⟩ q

/-- `X` holds point `t`'s rows of the adjacency matrix, as far as there are any. -/
def IsBlock (c : Dev nD) (t : ℕ) (X : FVec Ideal S512x10000 .f32) : Prop :=
  ∀ (r : Fin 512) (n : Fin 10000) (h : 512 * (t % 20) + r.val < 10000), X (ix2 r n) = adj m c (ix2 ⟨512 * (t % 20) + r.val, h⟩ n)

/-- `X` holds point `t`'s block of the result, as far as the result reaches. -/
def IsOut (c : Dev nD) (t : ℕ) (X : FVec Ideal S64x512 .f32) : Prop :=
  20 ≤ t → ∀ (q : Fin 64) (r : Fin 512) (h : 512 * (t - 20) + r.val < 10000), X (ix2 q r) = out m c ⟨512 * (t - 20) + r.val, h⟩ q

/-- A point of phase 0 adds its rows. -/
theorem rows_step (c : Dev nD) (t : ℕ) (ht : t < 20) (X : FVec Ideal S512x10000 .f32) (hX : IsBlock m c t X) (g0 g : FVec Ideal S10240x64 .bf16)
    (hg : stored (512 * t) g0 (k0_pay3 (F := Ideal) X (feat m c) (k0_pay1 (F := Ideal) (wt0 m c)) (bias0 m c) (k0_pay2 (F := Ideal) (wt1 m c))) g)
    (h0 : rowsUpTo m c t g0) : rowsUpTo m c (t + 1) g := by
  intro r h q hr
  have hm : t % 20 = t := Nat.mod_eq_of_lt ht
  rcases Nat.lt_or_ge r.val (512 * t) with hlt | hge
  · rw [hg.2 r q (.inl hlt)]
    exact h0 r h q (by omega)
  · obtain ⟨r', hr'⟩ : ∃ r' : Fin 512, 512 * t + r'.val = r.val := ⟨⟨r.val - 512 * t, by omega⟩, by show 512 * t + (r.val - 512 * t) = _; omega⟩
    have hlt : 512 * t + r'.val < 10240 := by omega
    have er : r = ⟨512 * t + r'.val, hlt⟩ := Fin.ext hr'.symm
    have e := hg.1 r' q hlt
    rw [← er, pay3_at, pay1_eq, pay2_eq] at e
    refine e.trans ?_
    have hrow : (fun n => X (ix2 r' n)) = fun p => adj m c (ix2 ⟨r.val, h⟩ p) := by
      funext n
      rw [hX r' n (by rw [hm]; omega)]
      congr 2
      exact Fin.ext (by show 512 * (t % 20) + r'.val = r.val; rw [hm]; exact hr')
    unfold zVal
    rw [hrow]

/-- Phase 1 changes no row. -/
theorem rows_keep (c : Dev nD) (t : ℕ) (ht : 20 ≤ t) (g0 : FVec Ideal S10240x64 .bf16) (h0 : rowsUpTo m c t g0) : rowsUpTo m c (t + 1) g0 :=
  fun r h q hr => h0 r h q (by omega)

/-- A point of phase 1 computes its block of the result. -/
theorem out_step (c : Dev nD) (t : ℕ) (ht : t < 40) (X : FVec Ideal S512x10000 .f32) (hX : IsBlock m c t X) (g0 : FVec Ideal S10240x64 .bf16)
    (h0 : rowsUpTo m c t g0) : IsOut m c t (k0_pay4 (F := Ideal) X (top g0) (bias1 m c)) := by
  intro h20 q r h
  rw [pay4_at]
  have hm : t % 20 = t - 20 := by omega
  have hrow : (fun n => X (ix2 r n)) = fun p => adj m c (ix2 ⟨512 * (t - 20) + r.val, h⟩ p) := by
    funext n
    rw [hX r n (by rw [hm]; exact h)]
    congr 2
    exact Fin.ext (by show 512 * (t % 20) + r.val = _; rw [hm])
  have hz : (fun (n : Fin 10000) (l : Fin 64) => top g0 (ix2 n l)) = zVal m c := by
    funext n l
    exact h0 ⟨n.val, by omega⟩ n.isLt l (by show n.val < _; omega)
  unfold out
  rw [hrow, hz]

/-! ## The proof data -/

/-- What the scratch arrays hold before point `n`. -/
abbrev scratches (c : Dev nD) (n : ℕ) : sProp 𝕄 :=
  iprop(∃ (g0 : FVec Ideal S10240x64 .bf16) (g1 : FVec Ideal S256x256 .bf16) (g2 : FVec Ideal S64x256 .bf16),
    ⌜rowsUpTo m c n g0 ∧ (n ≠ 0 → g1 = k0_pay1 (F := Ideal) (wt0 m c) ∧ g2 = k0_pay2 (F := Ideal) (wt1 m c))⌝
      ∗ scrAt c cc0_scratch0 g0 ∗ scrAt c cc0_scratch1 g1 ∗ scrAt c cc0_scratch2 g2)

/-- The proof data: five windows stay at their blocks; of the adjacency window and the result window see `held`. -/
def dats (_ : Fin 1) (c : Dev nD) : Dat τ (Elt Ideal) Unit ℕ (UR sig nD τ) ℕ cfg0 c where
  A w := V m c (Pipeline.arrRef spec0 w)
  after w t := match w with
    | ⟨1, _⟩ => iblk m c 1 t
    | ⟨2, _⟩ => iblk m c 2 t
    | ⟨3, _⟩ => iblk m c 3 t
    | ⟨4, _⟩ => iblk m c 4 t
    | ⟨5, _⟩ => iblk m c 5 t
    | _ => Classical.arbitrary _
  Φ n := iprop(scratches m c n.val ∗ ∃ r, prngReg c r)
  q _ := fullShare
  owed _ := 0

/-- The two windows whose buffers are not named outright: the adjacency's and the result's. -/
def marked : Fin cfg0.W → Bool := fun w => match w with
  | ⟨0, _⟩ => true
  | ⟨6, _⟩ => true
  | _ => false

/-- What the body leaves in them: nothing is said of the adjacency's, which is fetched anew at every point. -/
def held (c : Dev nD) : (w : Fin cfg0.W) → Fin cfg0.N → ((cfg0.win w).block.Idx → Elt Ideal (cfg0.win w).elt) → Prop := fun w t => match w with
  | ⟨6, _⟩ => fun X => IsOut m c t.val X
  | _ => fun _ => True

/-- The relational data. -/
abbrev rdat (c : Dev nD) : RDat τ (Elt Ideal) Unit ℕ (UR sig nD τ) ℕ cfg0 c := (dats m 0 c).toRRel marked (held m c)

theorem before1 (c : Dev nD) (t : Fin cfg0.N) (d) : (dats m 0 c).before 1 t d = feat m c :=
  (before0_1_of m (dats m 0 c) rfl (fun _ => rfl) t d).trans (blk1 m c t)
theorem before2 (c : Dev nD) (t : Fin cfg0.N) (d) : (dats m 0 c).before 2 t d = wt0 m c :=
  (before0_2_of m (dats m 0 c) rfl (fun _ => rfl) t d).trans (blk2 m c t)
theorem before3 (c : Dev nD) (t : Fin cfg0.N) (d) : (dats m 0 c).before 3 t d = wt1 m c :=
  (before0_3_of m (dats m 0 c) rfl (fun _ => rfl) t d).trans (blk3 m c t)
theorem before4 (c : Dev nD) (t : Fin cfg0.N) (d) : (dats m 0 c).before 4 t d = bias0 m c :=
  (before0_4_of m (dats m 0 c) rfl (fun _ => rfl) t d).trans (blk4 m c t)
theorem before5 (c : Dev nD) (t : Fin cfg0.N) (d) : (dats m 0 c).before 5 t d = bias1 m c :=
  (before0_5_of m (dats m 0 c) rfl (fun _ => rfl) t d).trans (blk5 m c t)

/-- What the body finds in the adjacency's buffer. -/
theorem finds0 (c : Dev nD) (t : Fin cfg0.N) (Y : FVec Ideal S512x10000 .f32) (h : (rdat m c).Finds 0 t Y) : IsBlock m c t.val Y := by
  obtain ⟨d, rfl⟩ := ((rdat m c).finds_of_fetch (fetch0_0 t) Y).mp h
  exact fun r n hr => blk0 m c t d r n hr

/-- A staging buffer's contents. -/
abbrev own (c : Dev nD) {sp : Space} {S : Shape} {e : EltTy} (M : Memref sig .tc sp S e) (X : S.Idx → Elt Ideal e) : sProp 𝕄 :=
  owns (c : Thread nD τ) M fullShare X

/-- The seven staging buffers, the adjacency's at a block of its rows, the result's at contents meeting `P`. -/
abbrev windows (c : Dev nD) (t : Fin cfg0.N) (P0 : FVec Ideal S512x10000 .f32 → Prop) (P6 : FVec Ideal S64x512 .f32 → Prop) : sProp 𝕄 :=
  iprop((∃ X, ⌜P0 X⌝ ∗ own c (stage0_0 (cfg0.slots t 0)) X) ∗ own c (stage0_1 (cfg0.slots t 1)) (feat m c)
    ∗ own c (stage0_2 (cfg0.slots t 2)) (wt0 m c) ∗ own c (stage0_3 (cfg0.slots t 3)) (wt1 m c)
    ∗ own c (stage0_4 (cfg0.slots t 4)) (bias0 m c) ∗ own c (stage0_5 (cfg0.slots t 5)) (bias1 m c)
    ∗ (∃ X, ⌜P6 X⌝ ∗ own c (stage0_6 (cfg0.slots t 6)) X))

/-- One point, from what it finds to what it leaves. -/
theorem point (c : Dev nD) (t : Fin cfg0.N) (Q : PUnit → sProp 𝕄) :
    iprop(scratches m c t.val ∗ windows m c t (IsBlock m c t.val) (fun _ => True)
        ∗ (iprop(scratches m c (t.val + 1) ∗ windows m c t (fun _ => True) (IsOut m c t.val)) -∗ Q ⟨⟩))
      ⊢ wp frame (wpE (defs₀ (F := Ideal)) Variants.none c none) Set.univ (bodyAt0 t) Q := by
  have hN : t.val < 40 := lt_of_lt_of_eq t.isLt N_0
  iintro ⟨⟨%g0, %g1, %g2, %hg, G0, G1, G2⟩, ⟨⟨%X0, %hX0, H0⟩, H1, H2, H3, H4, H5, ⟨%X6, -, H6⟩⟩, Hk⟩
  obtain ⟨h0, hw⟩ := hg
  rcases Nat.eq_zero_or_pos t.val with ht | ht
  · obtain ⟨c1, c2, c3⟩ := at_first t ht
    have ho := row_off t (by omega)
    iapply (bodyA c (grid0.coords t) _ (hstage0_0 (cfg0.slots t 0)) _ (hstage0_1 (cfg0.slots t 1)) _ (hstage0_2 (cfg0.slots t 2))
      _ (hstage0_3 (cfg0.slots t 3)) _ (hstage0_4 (cfg0.slots t 4)) _ (hstage0_5 (cfg0.slots t 5)) _ (hstage0_6 (cfg0.slots t 6)) Q
      X0 (feat m c) (wt0 m c) (wt1 m c) (bias0 m c) g0 g1 g2 c1 c2 c3)
    isplitl [H0 H1 H2 H3 H4]
    · isplitl [H0]; · iexact H0
      isplitl [H1]; · iexact H1
      isplitl [H2]; · iexact H2
      isplitl [H3]; · iexact H3
      iexact H4
    isplitl [G0 G1 G2]
    · isplitl [G0]; · iexact G0
      isplitl [G1]; · iexact G1
      iexact G2
    iintro ⟨⟨H0, H1, H2, H3, H4⟩, ⟨%g, %hg, G0⟩, G1, G2⟩
    rw [ho] at hg
    iapply Hk
    isplitl [G0 G1 G2]
    · iexists g, _, _
      isplitr
      · ipureintro; exact ⟨rows_step m c t.val (by omega) X0 hX0 g0 g hg h0, fun _ => ⟨rfl, rfl⟩⟩
      isplitl [G0]; · iexact G0
      isplitl [G1]; · iexact G1
      iexact G2
    isplitl [H0]
    · iexists X0; isplitr
      · ipureintro; trivial
      · iexact H0
    isplitl [H1]; · iexact H1
    isplitl [H2]; · iexact H2
    isplitl [H3]; · iexact H3
    isplitl [H4]; · iexact H4
    isplitl [H5]; · iexact H5
    iexists X6; isplitr
    · ipureintro; exact fun h => absurd h (by omega)
    · iexact H6
  obtain ⟨rfl, rfl⟩ := hw (by omega)
  rcases Nat.lt_or_ge t.val 20 with ht' | ht'
  · obtain ⟨c1, c2, c3⟩ := at_phase0 t (by omega) ht'
    have ho := row_off t ht'
    iapply (bodyB c (grid0.coords t) _ (hstage0_0 (cfg0.slots t 0)) _ (hstage0_1 (cfg0.slots t 1)) _ (hstage0_2 (cfg0.slots t 2))
      _ (hstage0_3 (cfg0.slots t 3)) _ (hstage0_4 (cfg0.slots t 4)) _ (hstage0_5 (cfg0.slots t 5)) _ (hstage0_6 (cfg0.slots t 6)) Q
      X0 (feat m c) (bias0 m c) g0 _ _ c1 c2 c3)
    isplitl [H0 H1 H4]
    · isplitl [H0]; · iexact H0
      isplitl [H1]; · iexact H1
      iexact H4
    isplitl [G0 G1 G2]
    · isplitl [G0]; · iexact G0
      isplitl [G1]; · iexact G1
      iexact G2
    iintro ⟨⟨H0, H1, H4⟩, ⟨%g, %hg, G0⟩, G1, G2⟩
    rw [ho] at hg
    iapply Hk
    isplitl [G0 G1 G2]
    · iexists g, _, _
      isplitr
      · ipureintro; exact ⟨rows_step m c t.val ht' X0 hX0 g0 g hg h0, fun _ => ⟨rfl, rfl⟩⟩
      isplitl [G0]; · iexact G0
      isplitl [G1]; · iexact G1
      iexact G2
    isplitl [H0]
    · iexists X0; isplitr
      · ipureintro; trivial
      · iexact H0
    isplitl [H1]; · iexact H1
    isplitl [H2]; · iexact H2
    isplitl [H3]; · iexact H3
    isplitl [H4]; · iexact H4
    isplitl [H5]; · iexact H5
    iexists X6; isplitr
    · ipureintro; exact fun h => absurd h (by omega)
    · iexact H6
  · obtain ⟨c1, c2, c3⟩ := at_phase1 t ht'
    iapply (bodyC c (grid0.coords t) _ (hstage0_0 (cfg0.slots t 0)) _ (hstage0_1 (cfg0.slots t 1)) _ (hstage0_2 (cfg0.slots t 2))
      _ (hstage0_3 (cfg0.slots t 3)) _ (hstage0_4 (cfg0.slots t 4)) _ (hstage0_5 (cfg0.slots t 5)) _ (hstage0_6 (cfg0.slots t 6)) Q
      X0 (bias1 m c) X6 g0 c1 c2 c3)
    isplitl [H0 H5 H6]
    · isplitl [H0]; · iexact H0
      isplitl [H5]; · iexact H5
      iexact H6
    isplitl [G0]; · iexact G0
    iintro ⟨⟨H0, H5, H6⟩, G0⟩
    iapply Hk
    isplitl [G0 G1 G2]
    · iexists g0, _, _
      isplitr
      · ipureintro; exact ⟨rows_keep m c t.val ht' g0 h0, fun _ => ⟨rfl, rfl⟩⟩
      isplitl [G0]; · iexact G0
      isplitl [G1]; · iexact G1
      iexact G2
    isplitl [H0]
    · iexists X0; isplitr
      · ipureintro; trivial
      · iexact H0
    isplitl [H1]; · iexact H1
    isplitl [H2]; · iexact H2
    isplitl [H3]; · iexact H3
    isplitl [H4]; · iexact H4
    isplitl [H5]; · iexact H5
    iexists (k0_pay4 (F := Ideal) X0 (top g0) (bias1 m c)); isplitr
    · ipureintro; exact out_step m c t.val hN X0 hX0 g0 h0
    · iexact H6

/-- The body's obligation. -/
theorem body_obligation (c : Dev nD) : BodyObligationRel (dats m 0 c) (defs₀ (F := Ideal)) Variants.none () Set.univ marked (held m c) := fun t => by
  rw [bigSep_W0, bigSep_W0]
  change iprop(iprop(scratches m c t.val ∗ ∃ r, prngReg c r) ∗ (dats m 0 c).owesAt () t.castSucc
      ∗ (∃ X : FVec Ideal S512x10000 .f32, ⌜(rdat m c).Finds 0 t X⌝ ∗ own c (stage0_0 (cfg0.slots t 0)) X)
      ∗ (∃ d, own c (stage0_1 (cfg0.slots t 1)) ((dats m 0 c).before 1 t d))
      ∗ (∃ d, own c (stage0_2 (cfg0.slots t 2)) ((dats m 0 c).before 2 t d))
      ∗ (∃ d, own c (stage0_3 (cfg0.slots t 3)) ((dats m 0 c).before 3 t d))
      ∗ (∃ d, own c (stage0_4 (cfg0.slots t 4)) ((dats m 0 c).before 4 t d))
      ∗ (∃ d, own c (stage0_5 (cfg0.slots t 5)) ((dats m 0 c).before 5 t d))
      ∗ (∃ X : FVec Ideal S64x512 .f32, ⌜(rdat m c).Finds 6 t X⌝ ∗ own c (stage0_6 (cfg0.slots t 6)) X))
    ⊢ wp frame (wpE (defs₀ (F := Ideal)) Variants.none c none) Set.univ (bodyAt0 t)
        fun _ => iprop(iprop(scratches m c (t.val + 1) ∗ ∃ r, prngReg c r) ∗ (dats m 0 c).owesAt () t.castSucc
      ∗ (∃ X : FVec Ideal S512x10000 .f32, ⌜True⌝ ∗ own c (stage0_0 (cfg0.slots t 0)) X)
      ∗ own c (stage0_1 (cfg0.slots t 1)) (iblk m c 1 t) ∗ own c (stage0_2 (cfg0.slots t 2)) (iblk m c 2 t)
      ∗ own c (stage0_3 (cfg0.slots t 3)) (iblk m c 3 t) ∗ own c (stage0_4 (cfg0.slots t 4)) (iblk m c 4 t)
      ∗ own c (stage0_5 (cfg0.slots t 5)) (iblk m c 5 t)
      ∗ (∃ X : FVec Ideal S64x512 .f32, ⌜IsOut m c t.val X⌝ ∗ own c (stage0_6 (cfg0.slots t 6)) X))
  rw [blk1, blk2, blk3, blk4, blk5]
  iintro ⟨⟨HS, HP⟩, Ho, ⟨%X0, %hX0, H0⟩, ⟨%d1, H1⟩, ⟨%d2, H2⟩, ⟨%d3, H3⟩, ⟨%d4, H4⟩, ⟨%d5, H5⟩, ⟨%X6, -, H6⟩⟩
  rw [before1 m c t d1, before2 m c t d2, before3 m c t d3, before4 m c t d4, before5 m c t d5]
  iapply (point m c t)
  isplitl [HS]; · iexact HS
  isplitl [H0 H1 H2 H3 H4 H5 H6]
  · isplitl [H0]
    · iexists X0; isplitr
      · ipureintro; exact finds0 m c t X0 hX0
      · iexact H0
    isplitl [H1]; · iexact H1
    isplitl [H2]; · iexact H2
    isplitl [H3]; · iexact H3
    isplitl [H4]; · iexact H4
    isplitl [H5]; · iexact H5
    iexists X6; isplitr
    · ipureintro; trivial
    · iexact H6
  iintro ⟨HS, HW⟩
  isplitl [HS HP]
  · isplitl [HS] <;> iassumption
  isplitl [Ho]; · iexact Ho
  iexact HW

end Cert.Proof.Region

end
-- ==== Proof.Launch.lean ====
/-
  The launch of `KernelIdeal` for relational proof data. The generated kit runs a region whose result is one named value; here one
  staging buffer is written back at contents that nobody names, so the result array is only known to be one of those that the
  write-backs may leave. The lines after the region (a slice and a transpose) are therefore run from whatever arrays were left, and
  the final memory is stated as the value of those lines at those arrays.
-/
module

public import proofs.«01_k».proof.Proof.Gen.KernelIdeal.Frame
public import proofs.«01_k».proof.Proof.Gen.KernelIdeal.Skeleton
public import proofs.«01_k».proof.Defs

@[expose] public section

set_option maxRecDepth 16384

noncomputable section

namespace Cert.Proof.Launch

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (rdat : (c : Dev nD) → RDat τ (Elt F) Unit ℕ (UR sig nD τ) ℕ cfg0 c)

/-- Contents of the seven windowed arrays of core `c`. -/
abbrev Arrays (c : Dev nD) : Type := (w : Fin cfg0.W) → Buf (Elt F) ((cfg0.win w).arr.view.loc (c.tc : Thread nD τ))

/-- The arrays of core `c`, each whole, at the contents `A`. -/
abbrev held (c : Dev nD) (A : Arrays (F := F) c) : sProp 𝕄 :=
  bigSep Finset.univ fun w => ((c.tc : Thread nD τ).loc (Pipeline.arrRef cfg0.spec w)) ↦{fullShare} A w

/-- The arrays of core `c`, each at some contents that the write-backs may leave. -/
abbrev leftArrays (c : Dev nD) : sProp 𝕄 :=
  bigSep Finset.univ fun w => iprop(∃ B, ⌜(rdat c).ArrAt w cfg0.N B⌝
    ∗ (((c.tc : Thread nD τ).loc (Pipeline.arrRef cfg0.spec w)) ↦{fullShare} B : sProp 𝕄))

theorem left_elim (c : Dev nD) :
    leftArrays rdat c ⊢ iprop(∃ A : Arrays (F := F) c, ⌜∀ w, (rdat c).ArrAt w cfg0.N (A w)⌝ ∗ held c A) := by
  iintro H
  ihave H' := (BI.bigSep_exists_pi Finset.univ (fun w B => iprop(⌜(rdat c).ArrAt w cfg0.N B⌝
      ∗ (((c.tc : Thread nD τ).loc (Pipeline.arrRef cfg0.spec w)) ↦{fullShare} B : sProp 𝕄)))) $$ H
  icases H' with ⟨%A, H⟩
  ihave H2 := (BI.bigSep_pure_sep Finset.univ (fun w => (rdat c).ArrAt w cfg0.N (A w))
      (fun w => (((c.tc : Thread nD τ).loc (Pipeline.arrRef cfg0.spec w)) ↦{fullShare} A w : sProp 𝕄))) $$ H
  icases H2 with ⟨%hA, H⟩
  iexists A; isplitr
  · ipureintro; exact fun w => hA w (Finset.mem_univ w)
  · iexact H

theorem left_intro (c : Dev nD) (A : Arrays (F := F) c) (hA : ∀ w, (rdat c).ArrAt w cfg0.N (A w)) :
    held c A ⊢ leftArrays rdat c := by
  refine BI.bigSep_mono fun w _ => ?_
  show (((c.tc : Thread nD τ).loc (Pipeline.arrRef cfg0.spec w)) ↦{fullShare} A w : sProp 𝕄)
    ⊢ iprop(∃ B, ⌜(rdat c).ArrAt w cfg0.N B⌝ ∗ (((c.tc : Thread nD τ).loc (Pipeline.arrRef cfg0.spec w)) ↦{fullShare} B : sProp 𝕄))
  iintro H; iexists (A w); isplitr
  · ipureintro; exact hA w
  · iexact H

/-- The arrays are distinct buffers, so holding each is holding the buffers behind them. -/
theorem held_eq (c : Dev nD) (A : Arrays (F := F) c) :
    held c A = Pipeline.arrBufs cfg0.spec c (fun b => Pipeline.withArrays cfg0.spec c (V0 m c) A (Proc.devRef .tc b)) := by
  unfold Pipeline.arrBufs
  have himg : Finset.univ.image (Pipeline.arrRef cfg0.spec) = Finset.univ.map ⟨Pipeline.arrRef cfg0.spec, launch0.win.arr_inj⟩ := by
    rw [Finset.map_eq_image]; rfl
  rw [himg, bigSep_map]
  refine bigSep_congr fun w _ => ?_
  exact congrArg _ (Pipeline.withArrays_arr cfg0.spec launch0.win.arr_inj c (V0 m c) A w).symm

/-- What buffer `b` of core `c` holds at the end, if the region left the arrays at `A`. -/
abbrev final (c : Dev nD) (A : Arrays (F := F) c) (b : Ref sig .tc) : Buf (Elt F) ((c.tc : Thread nD τ).loc b) :=
  StableHlo.after [hostOps1].flatten (Pipeline.withArrays cfg0.spec c (V0 m c) A) (Proc.devRef .tc b)

set_option backward.isDefEq.respectTransparency.types false in
/-- The run: each core ends with its result buffers at the value of the last host lines, at some contents of the arrays that the
    write-backs may leave. -/
theorem run (hbody : ∀ c, (rdat c).BodyObligation defs₀ Variants.none () Set.univ)
    (hshare : ∀ c w, (rdat c).share w = fullShare) (howed : ∀ c t, (rdat c).owed t = 0)
    (hA : ∀ c w, (rdat c).A w = V m c (Pipeline.arrRef cfg0.spec w))
    (hin : ∀ c, Pipeline.ΦA cfg0.spec c ⊢ (rdat c).Φ 0)
    (hout : ∀ c, (rdat c).Φ (Fin.last cfg0.N) ⊢ Pipeline.ΦA cfg0.spec c) :
    θ_run (defs (F := F)) (onTc (τ := τ) (main (F := F))) ⟨m, fun _ => 0, ρ⟩ (fun r => ∀ c : Dev nD,
      ∃ A : Arrays (F := F) c, (∀ w, (rdat c).ArrAt w cfg0.N (A w))
        ∧ ∀ b ∈ Pipeline.restRefs sig cfg0.spec, r.2.mem ((c.tc : Thread nD τ).loc b) = final m c A b) := by
  classical
  exact RDat.θ_run_region_tail cfgs () launch0.cellOf_inj 0 launch0.win (Pipeline.OwnSemFacts.none cfg0.spec) emb₁ defs₀
    Variants.none rdat m ρ main (fun _ => Pipeline.chain ([hostOps1].map StableHlo.seq)) hbody launch0.block_pos launch0.arr_whole
    launch0.stage_whole hshare howed
    (G := fun _ => iprop(emp)) (u₀ := initOf (Pipeline.cells cfgs launch0.cellOf_inj) (Pipeline.launchToks cfgs launch0.cellOf_inj))
    (hu₀ := by
      iintro Hu; imodintro
      isplitl [Hu]
      · iapply (show (ownU _ : sProp 𝕄) ⊢ BI.own (emb₁ (initOf (Pipeline.cells cfgs launch0.cellOf_inj)
          (Pipeline.launchToks cfgs launch0.cellOf_inj))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none) (hA := hA)
    (X := fun c => iprop(∃ r, prngReg c r)) (Y := fun c => iprop(∃ r, prngReg c r))
    (Z := fun c => Pipeline.unscopedRest (Ix := Unit) (Name := ℕ) (U := UR sig nD τ) (Lvl := ℕ) cfg0.spec c (V m c))
    (Z' := fun c => iprop(∃ A : Arrays (F := F) c, ⌜∀ w, (rdat c).ArrAt w cfg0.N (A w)⌝
      ∗ Pipeline.unscopedRest (Ix := Unit) (Name := ℕ) (U := UR sig nD τ) (Lvl := ℕ) cfg0.spec c (final m c A)))
    (hX := fun c => by
      iintro ⟨HU, -, -, -, Hp, -⟩; imodintro
      isplitl [Hp]
      · iexists _; iexact Hp
      · iexact HU)
    (hin := fun c => BIBase.Entails.trans (by
      unfold Pipeline.ΦA
      iintro ⟨Hp, Hr⟩
      isplitl [Hr] <;> iassumption) (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      iintro ⟨Hk, Hb, Ha, HZ⟩
      ihave Ha' := (left_elim rdat c) $$ Ha
      icases Ha' with ⟨%A, %hA', Ha⟩
      iapply (Pipeline.tail_seqs_bufs (fun q => (cfgs q).toPCfg) defs₀ Variants.none Pipeline.Prefetch.none cfg0.spec c (V0 m c) A
        [hostOps1] sfx_sub sfx_fresh sfx_keeps Q')
      isplitl [Hk]
      · iintro ⟨Ha2, Hu⟩
        iapply Hk
        isplitl [Ha2]
        · iapply (left_intro rdat c A hA'); iapply (Entails.of_eq (held_eq m c A).symm); iexact Ha2
        iexists A; isplitr
        · ipureintro; exact hA'
        · iapply (Entails.of_eq (Pipeline.unscopedRestP_none cfg0.spec c (final m c A))); iexact Hu
      · isplitl [Hb]; · iexact Hb
        isplitl [Ha]
        · iapply (Entails.of_eq (held_eq m c A)); iexact Ha
        · iapply (Entails.of_eq (Pipeline.unscopedRestP_none cfg0.spec c (V m c)).symm); iexact HZ)
    (QY := fun c s => ∃ A : Arrays (F := F) c, (∀ w, (rdat c).ArrAt w cfg0.N (A w))
        ∧ ∀ b ∈ Pipeline.restRefs sig cfg0.spec, s.mem ((c.tc : Thread nD τ).loc b) = final m c A b)
    (hY := fun c s' => by
      iintro ⟨-, HZ, HSI⟩
      icases HZ with ⟨%A, %hA', HZ⟩
      unfold Pipeline.unscopedRest
      ihave HZ' := (pointsTo_read_all (Pipeline.restRefs sig cfg0.spec) (fun b => (c.tc : Thread nD τ).loc b) (final m c A) s') $$ [HZ HSI]
      · isplitl [HZ] <;> iassumption
      icases HZ' with ⟨%hZ, HSI⟩
      imodintro
      isplitr
      · ipureintro; exact ⟨A, hA', hZ⟩
      · iexact HSI)
    (hQ := fun s h c => (h c).2)

end Cert.Proof.Launch

end
-- ==== Proof.Result.lean ====
/-
  What `KernelIdeal` leaves in its result: the write-backs of phase 1 put every entry of the result into the upper half of the region's
  array, the one of point 19 touches the lower half only, and the two lines after the region cut the upper half out and transpose it.
-/
module

public import proofs.«01_k».proof.Proof.Region
public import proofs.«01_k».proof.Proof.Launch
public import Idealize.ShloMosaic.Lib.Pipeline.ArrRel

@[expose] public section

set_option maxRecDepth 16384

noncomputable section

namespace Cert.Proof.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel)
open Cert.Proof.Body Cert.Proof.Blocks Cert.Proof.Pure Cert.Proof.Region

local notation "𝕄" => MT nD τ sig Unit (Elt Ideal) ℕ (UR sig nD τ) ℕ

variable (m : (ℓ : Loc nD τ sig) → Buf (Elt Ideal) ℓ)

/-- A write-back happens at point 19 and later. -/
theorem flush6_ge : ∀ t : Fin cfg0.N, (cfg0.win 6).flush t = true → 19 ≤ t.val :=
  (by decide +kernel : ∀ t : Fin grid0.N, _)

/-- Entry `i` of the region's array is right if it lies in the upper half. -/
def Right (c : Dev nD) (i : S128x10000.Idx) (v : EReal) : Prop :=
  ∀ h : (i 0).val < 64, v = out m c (i 1) ⟨(i 0).val, h⟩

theorem array_right (c : Dev nD) (dat : Dat τ (Elt Ideal) Unit ℕ (UR sig nD τ) ℕ cfg0 c)
    (hL : ∀ u : Fin cfg0.N, (cfg0.win 6).flush u = true → IsOut m c u.val (dat.after 6 u))
    (q : Fin 128) (r : Fin 10000) (hq : q.val < 64) :
    Right m c (ix2 q r) (dat.arrAt 6 cfg0.N (ix2 q r : S128x10000.Idx)) := by
  have hr := r.isLt
  have hd : 20 + r.val / 512 < cfg0.N := lt_of_lt_of_eq (by omega) N_0.symm
  refine dat.arrAt_forall_of_flushed 6 (Right m c) (fun t hf y => ?_) cfg0.N ⟨20 + r.val / 512, hd⟩ (ix2 q r) hd
    (flush6 _ (Nat.le_add_right _ _)) (mem6 _ q r hq rfl)
  intro h
  have hy0 : (y 0).val < 64 := lt_of_lt_of_eq (y 0).isLt (sizes t).2.2.1
  have hy1 : (y 1).val < min 512 (10000 - 512 * (t.val - 20)) := lt_of_lt_of_eq (y 1).isLt (sizes t).2.2.2
  obtain ⟨-, -, -, -, -, -, h6⟩ := idx t
  have e0 : win0_6.index t 0 = 1 - t.val / 20 := congrFun h6 0
  have e1 : win0_6.index t 1 = t.val - 20 := congrFun h6 1
  have E0 : ((((cfg0.win 6).blk t).view.emb y : S128x10000.Idx) 0).val = (1 - t.val / 20) * 64 + (y 0).val := by
    blk_simp [e0]
  have E1 : ((((cfg0.win 6).blk t).view.emb y : S128x10000.Idx) 1).val = (t.val - 20) * 512 + (y 1).val := by
    blk_simp [e1]
  have h19 := flush6_ge t hf
  have h20 : 20 ≤ t.val := by
    rw [E0] at h
    omega
  have hN : t.val < 40 := lt_of_lt_of_eq t.isLt N_0
  have hk := hL t hf h20 ⟨(y 0).val, hy0⟩ ⟨(y 1).val, lt_of_lt_of_le hy1 (min_le_left _ _)⟩ (by show 512 * (t.val - 20) + (y 1).val < _; omega)
  refine Eq.trans ?_ (hk.trans ?_)
  · blk_simp
    exact congrArg (dat.after 6 t) (funext (Fin.forall_fin_two.mpr ⟨Fin.ext rfl, Fin.ext rfl⟩))
  · congr 1
    · exact Fin.ext (by rw [E1]; show 512 * (t.val - 20) + (y 1).val = _; omega)
    · exact Fin.ext (by show (y 0).val = _; rw [E0]; omega)

/-- The result, entry by entry. -/
def res (c : Dev nD) : FVec Ideal S10000x64 .f32 := fun i => out m c (i 0) (i 1)

/-- The windows' arrays are distinct buffers. -/
theorem arrRef_inj : Function.Injective (Pipeline.arrRef cfg0.spec) := by decide

/-- The two lines after the region, at an array right in its upper half. -/
theorem final_eq (c : Dev nD) (A : Launch.Arrays (F := Ideal) c)
    (hA : ∀ (q : Fin 128) (r : Fin 10000), q.val < 64 → Right m c (ix2 q r) ((A 6 : FVec Ideal S128x10000 .f32) (ix2 q r))) :
    Launch.final m c A main_v5 = res m c := by
  have h6 : Pipeline.withArrays cfg0.spec c (V0 m c) A (Proc.devRef .tc main_v3) = A 6 :=
    Pipeline.withArrays_arr cfg0.spec arrRef_inj c (V0 m c) A 6
  have e : Launch.final m c A main_v5 = transpose S10000x64 [1, 0]
      (extractStridedSlice S64x10000 ![0, 0] (A 6 : FVec Ideal S128x10000 .f32) slices_S128x10000_S64x10000_0_0)
      transposes_S64x10000_S10000x64_1_0 := by
    unfold Launch.final
    rw [← h6]
    rfl
  rw [e]
  funext i
  pointwise
  exact hA ⟨(i 1).val, lt_trans (i 1).isLt (by decide)⟩ (i 0) (i 1).isLt (i 1).isLt

/-- Every array is held whole. -/
theorem share_eq (c : Dev nD) (w : Fin cfg0.W) : (rdat m c).share w = fullShare := by
  unfold RDat.share
  split <;> rfl

theorem body (c : Dev nD) : (rdat m c).BodyObligation (defs₀ (F := Ideal)) Variants.none () Set.univ :=
  (body_obligation m c).toRRel

theorem enter (c : Dev nD) : Pipeline.ΦA cfg0.spec c ⊢ (rdat m c).Φ 0 := by
  change _ ⊢ iprop(scratches m c 0 ∗ ∃ r, prngReg c r)
  unfold Pipeline.ΦA
  rw [scopedRest0_eq]
  iintro ⟨⟨⟨%g0, G0⟩, ⟨%g1, G1⟩, ⟨%g2, G2⟩⟩, HP⟩
  isplitl [G0 G1 G2]
  · iexists g0, g1, g2
    isplitr
    · ipureintro; exact ⟨fun r h q hr => absurd hr (by omega), fun h => absurd rfl h⟩
    isplitl [G0]; · iexact G0
    isplitl [G1]; · iexact G1
    iexact G2
  iexact HP

theorem leave (c : Dev nD) : (rdat m c).Φ (Fin.last cfg0.N) ⊢ Pipeline.ΦA cfg0.spec c := by
  change iprop(scratches m c cfg0.N ∗ ∃ r, prngReg c r) ⊢ _
  unfold Pipeline.ΦA
  rw [scopedRest0_eq]
  iintro ⟨⟨%g0, %g1, %g2, -, G0, G1, G2⟩, HP⟩
  isplitl [G0 G1 G2]
  · isplitl [G0]; · iexists g0; iexact G0
    isplitl [G1]; · iexists g1; iexact G1
    iexists g2; iexact G2
  iexact HP

/-- The run of `KernelIdeal` ends with the result in its buffer. -/
theorem run (ρ : Dev nD → PrngReg) :
    θ_run (defs (F := Ideal)) (onTc main) ⟨m, fun _ => 0, ρ⟩ (fun r => ∀ c : Dev nD, r.2.mem ((c.tc : Thread nD τ).loc main_v5) = res m c) := by
  refine (θ_run _ _ _).mono (fun r h c => ?_) (Launch.run m ρ (rdat m) (body m) (share_eq m) (fun _ _ => rfl) (fun _ _ => rfl)
    (enter m) (leave m))
  obtain ⟨A, hA, hr⟩ := h c
  obtain ⟨after, hL, hE⟩ := RDat.ArrAt.exists_exact_all hA
  rw [hr main_v5 (Pipeline.mem_restRefs_of main_v5 (by decide) (by decide))]
  refine final_eq m c A fun q r hq => ?_
  rw [hE 6]
  exact array_right m c _ (fun u hf => (dats m 0 c).toRRel_leaves (fgt := marked) (Rl := held m c) (w := 6) (t := u) rfl (hL 6 u u.isLt hf)) q r hq

end Cert.Proof.Result

end
-- ==== Proof.RefValue.lean ====
/-
  The reference's result at the ideal values, read at one index.
-/
module

public import proofs.«01_k».proof.Proof.Pure
public import proofs.«01_k».proof.Proof.Gen.ReferenceIdeal.Run

@[expose] public section

set_option maxRecDepth 16384

noncomputable section

namespace Cert.Proof.RefValue

open Idealize.ShloMosaic Idealize.ShloMosaic.TcCoe Idealize.SL.Sem
open Cert.ReferenceIdeal Cert.ReferenceIdeal.Gen
open Cert.Proof.Pure (zEntry hEntry logSoftmax leaky negInf)

/-- One entry of the first layer before its bias, as the reference brackets it: a row of the adjacency times a column of `x @ W0`. -/
def refMix (a : Fin 10000 → EReal) (x : FVec Ideal S10000x256 .f32) (w0 : FVec Ideal S256x256 .f32) (k : Fin 256) : EReal :=
  ∑ n : Fin 10000, a n * ∑ l : Fin 256, x (ix2 n l) * w0 (ix2 l k)

variable (x : FVec Ideal S10000x256 .f32) (adj : FVec Ideal S10000x10000 .f32) (w0 : FVec Ideal S256x256 .f32)
  (b0 : FVec Ideal S256 .f32) (w1 : FVec Ideal S256x64 .f32) (b1 : FVec Ideal S64 .f32)

/-- One entry of the reference's second product's right operand. -/
def refZ (n : Fin 10000) (l : Fin 64) : EReal :=
  ∑ k : Fin 256, leaky (refMix (fun p => adj (ix2 n p)) x w0 k + b0 (ix1 k)) * w1 (ix2 k l)

/-- One entry of the reference's second layer before the softmax. -/
def refH (r : Fin 10000) (q : Fin 64) : EReal :=
  (∑ n : Fin 10000, adj (ix2 r n) * refZ x adj w0 b0 w1 n q) + b1 (ix1 q)

/-- The reference's second layer before the softmax, as the program composes it. -/
def layers : FVec Ideal S10000x64 .f32 :=
  let u : FVec Ideal S10000x256 .f32 :=
    addf (Host.dotGeneral dot_S10000x10000_S10000x256_S10000x256_1_0_0_1_n_n none adj
        (Host.dotGeneral dot_S10000x256_S256x256_S10000x256_1_0_0_1_n_n none x w0))
      (broadcastInDim S10000x256 ![0, 1] bcast_S1x256_S10000x256_0_1 (broadcastInDim S1x256 ![1] bcast_S256_S1x256_1 b0))
  let v : FVec Ideal S10000x256 .f32 :=
    select (cmpf .oge u (broadcastInDim S10000x256 ![] bcast_S_S10000x256 (constant S_ .f32 0x00000000#32))) u
      (mulf (broadcastInDim S10000x256 ![] bcast_S_S10000x256 (constant S_ .f32 0x3E4CCCCD#32)) u)
  addf (Host.dotGeneral dot_S10000x10000_S10000x64_S10000x64_1_0_0_1_n_n none adj
      (Host.dotGeneral dot_S10000x256_S256x64_S10000x64_1_0_0_1_n_n none v w1))
    (broadcastInDim S10000x64 ![0, 1] bcast_S1x64_S10000x64_0_1 (broadcastInDim S1x64 ![1] bcast_S64_S1x64_1 b1))

/-- The logarithm of the softmax along the rows, as the program composes it. -/
def softmaxRows (H : FVec Ideal S10000x64 .f32) : FVec Ideal S10000x64 .f32 :=
  let d : FVec Ideal S10000x64 .f32 :=
    subf H (broadcastInDim S10000x64 ![0, 1] bcast_S10000x1_S10000x64_0_1 (broadcastInDim S10000x1 ![0] bcast_S10000_S10000x1_0
      (maximumf (broadcastInDim S10000 ![] bcast_S_S10000 (constant S_ .f32 0xFF800000#32))
        (Host.reduce FloatOps.maximumf H (constant S_ .f32 0xFF800000#32) reducesTo_S10000x64_S10000_d1 h_S_))))
  subf d (broadcastInDim S10000x64 ![0, 1] bcast_S10000x1_S10000x64_0_1 (Host.log
    (broadcastInDim S10000x1 ![0] bcast_S10000_S10000x1_0
      (Host.reduceAdd (Host.exp d) (constant S_ .f32 0x00000000#32) reducesTo_S10000x64_S10000_d1 h_S_))))

theorem layers_at (r : Fin 10000) (q : Fin 64) : layers x adj w0 b0 w1 b1 (ix2 r q) = refH x adj w0 b0 w1 b1 r q := by
  pointwise [layers, refH, refZ, refMix, leaky]

/-- Taking the maximum with the value a maximum starts from changes nothing. -/
theorem max_fold (f : Fin 64 → EReal) : max negInf (Finset.univ.fold max negInf f) = Finset.univ.fold max negInf f :=
  max_eq_right (Finset.le_fold_max _ |>.mpr (.inl le_rfl))

theorem softmaxRows_at (H : FVec Ideal S10000x64 .f32) (r : Fin 10000) (q : Fin 64) :
    softmaxRows H (ix2 r q) = logSoftmax (fun l => H (ix2 r l)) q := by
  pointwise [softmaxRows, logSoftmax]
  simp only [max_fold]

variable (m : (ℓ : Loc nD τ sig) → Buf (Elt Ideal) ℓ) (c : Dev nD)

theorem result_eq : Value.res_main_v15 m c = softmaxRows (layers (m ((c.tc : Thread nD τ).loc main_arg0))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))) := rfl

end Cert.Proof.RefValue

end
-- ==== Proof.Algebra.lean ====
/-
  The one place where the kernel and the reference compute differently: the kernel forms `(adj @ x) @ W0`, the reference
  `adj @ (x @ W0)`. The two agree where every entry of the three matrices is finite; this file proves that, and reads finiteness
  off the stated precondition.
-/
module

public import proofs.«01_k».proof.Proof.RefValue
public import proofs.«01_k».proof.Defs
public import Idealize.ShloMosaic.Lib.ReduceAll

@[expose] public section

set_option maxRecDepth 16384

noncomputable section

namespace Cert.Proof.Algebra

open Idealize.ShloMosaic Idealize.ShloMosaic.TcCoe Idealize.SL.Sem
open Cert.Proof.Pure Cert.Proof.RefValue

/-- An extended real that is the image of a real. -/
abbrev Fin' (e : EReal) : Prop := ∃ r : ℝ, e = (r : EReal)

/-- A finite sum of images of reals is the image of the sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Two nested sums of finite products may be bracketed either way. -/
theorem assoc {N L : ℕ} (a : Fin N → EReal) (x : Fin N → Fin L → EReal) (w : Fin L → EReal)
    (ha : ∀ n, Fin' (a n)) (hx : ∀ n l, Fin' (x n l)) (hw : ∀ l, Fin' (w l)) :
    ∑ l, (∑ n, a n * x n l) * w l = ∑ n, a n * ∑ l, x n l * w l := by
  choose a' ha using ha
  choose x' hx using hx
  choose w' hw using hw
  simp only [ha, hx, hw, ← EReal.coe_mul, ← coe_sum]
  congr 1
  simp only [Finset.sum_mul, Finset.mul_sum]
  rw [Finset.sum_comm]
  exact Finset.sum_congr rfl fun n _ => Finset.sum_congr rfl fun l _ => mul_assoc _ _ _

/-- The absolute value being below infinity is finiteness. -/
theorem finite_of_cmp (e : EReal) (h : Ideal.cmp .olt (max e (-e)) (Ideal.ofBits .f32 0x7F800000#32) = 1#1) : Fin' e := by
  have htop : Ideal.ofBits .f32 0x7F800000#32 = ⊤ := by simp [Ideal.ofBits, Ideal.ieee]
  rw [htop] at h
  induction e using EReal.rec with
  | bot => simp [Ideal.cmp] at h
  | top => simp [Ideal.cmp] at h
  | coe r => exact ⟨r, rfl⟩

open Cert.Pre_finite in
/-- What the stated precondition says of three arrays: every entry is finite. -/
theorem finite_of_fn [Cert.Pre_finite.Facts] (x : FVec Ideal S10000x256 .f32) (e : FVec Ideal S160000x16 .f32)
    (adj : FVec Ideal S10000x10000 .f32) (w0 : FVec Ideal S256x256 .f32) (b0 : FVec Ideal S256 .f32) (w1 : FVec Ideal S256x64 .f32)
    (b1 : FVec Ideal S64 .f32) (h : Cert.Pre_finite.fn (F := Ideal) x e adj w0 b0 w1 b1 = fun _ => 1#1) :
    (∀ i, Fin' (x i)) ∧ (∀ i, Fin' (adj i)) ∧ ∀ i, Fin' (w0 i) := by
  have h0 := congrFun h (fun a => a.elim0)
  dsimp only [fn] at h0
  haveI : Subsingleton S_.Idx := ⟨fun a b => funext fun i => i.elim0⟩
  obtain ⟨h01, h2⟩ := IntOp.andi_eq_one.mp h0
  obtain ⟨h0, h1⟩ := IntOp.andi_eq_one.mp h01
  exact ⟨fun i => finite_of_cmp _ (Host.reduce_andi_all _ _ _ _ _ h0 i), fun i => finite_of_cmp _ (Host.reduce_andi_all _ _ _ _ _ h1 i),
    fun i => finite_of_cmp _ (Host.reduce_andi_all _ _ _ _ _ h2 i)⟩

open Cert.ReferenceIdeal in
/-- The two bracketings of the first layer agree on finite entries. -/
theorem mix_eq (a : Fin 10000 → EReal) (x : FVec Ideal S10000x256 .f32) (w0 : FVec Ideal S256x256 .f32)
    (ha : ∀ n, Fin' (a n)) (hx : ∀ i, Fin' (x i)) (hw : ∀ i, Fin' (w0 i)) : mixRow a x w0 = refMix a x w0 :=
  funext fun k => assoc a (fun n l => x (ix2 n l)) (fun l => w0 (ix2 l k)) ha (fun _ _ => hx _) fun _ => hw _

end Cert.Proof.Algebra

end
-- ==== Proof.Join.lean ====
/-
  The two programs' values are the same. What `KernelIdeal` leaves is, entry by entry, the reference's term with one product bracketed
  the other way; for finite features, adjacency matrix and first weights the two brackets agree.
-/
module

public import proofs.«01_k».proof.Proof.Result
public import proofs.«01_k».proof.Proof.RefValue
public import proofs.«01_k».proof.Proof.Algebra
public import proofs.«01_k».proof.Proof.FrameIdeal
public import proofs.«01_k».proof.Proof.Gen.ReferenceIdeal.Run
public import proofs.«01_k».proof.Proof.Gen.Pre_finite

@[expose] public section

set_option maxRecDepth 16384

noncomputable section

namespace Cert.Proof.Join

open Cert.KernelIdeal Cert.KernelIdeal.Gen
open Idealize.ShloMosaic Idealize.ShloMosaic.TcCoe Idealize.ShloMosaic.Tactic
open Idealize.SL.Sem
open Cert.Proof.Blocks Cert.Proof.Pure Cert.Proof.Region Cert.Proof.Algebra Cert.Proof.RefValue

variable (m : (ℓ : Loc nD τ sig) → Buf (Elt Ideal) ℓ)

/-! ## The operands prepared before the region -/

theorem bias0_at (c : Dev nD) (k : Fin 256) :
    bias0 m c (ix2 0 k) = (m ((c.tc : Thread nD τ).loc main_arg4) : FVec Ideal S256 .f32) (ix1 k) := by
  have e : bias0 m c = shapeCast S1x256 (m ((c.tc : Thread nD τ).loc main_arg4) : FVec Ideal S256 .f32) shapeCasts_S256_S1x256 := rfl
  rw [e]
  pointwise

theorem bias1_at (c : Dev nD) (q : Fin 64) :
    bias1 m c (ix2 0 q) = (m ((c.tc : Thread nD τ).loc main_arg6) : FVec Ideal S64 .f32) (ix1 q) := by
  have e : bias1 m c = shapeCast S1x64 (m ((c.tc : Thread nD τ).loc main_arg6) : FVec Ideal S64 .f32) shapeCasts_S64_S1x64 := rfl
  rw [e]
  pointwise

theorem wt1_at (c : Dev nD) (q : Fin 64) (k : Fin 256) :
    wt1 m c (ix2 q k) = (m ((c.tc : Thread nD τ).loc main_arg5) : FVec Ideal S256x64 .f32) (ix2 k q) := by
  have e : wt1 m c = transpose S64x256 [1, 0] (m ((c.tc : Thread nD τ).loc main_arg5) : FVec Ideal S256x64 .f32)
      transposes_S256x64_S64x256_1_0 := rfl
  rw [e]
  pointwise

/-! ## The values -/

/-- The reference's term, at the kernel's arguments. -/
def value (c : Dev nD) : FVec Ideal S10000x64 .f32 :=
  softmaxRows (layers (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)))

theorem res_eq [Cert.Pre_finite.Facts] (h : Cert.Pre_KernelIdeal_finite m) (c : Dev nD) : Result.res m c = value m c := by
  obtain ⟨hx, ha, hw⟩ := finite_of_fn _ _ _ _ _ _ _ (h c)
  have hz : ∀ n q, zVal m c n q = refZ (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) n q := by
    intro n q
    unfold zVal zEntry refZ adj feat wt0
    rw [V_main_arg0, V_main_arg2, V_main_arg3, mix_eq _ _ _ (fun p => ha _) hx hw]
    exact Finset.sum_congr rfl fun k _ => by rw [bias0_at, wt1_at]
  funext i
  obtain ⟨r, q, rfl⟩ : ∃ (r : Fin 10000) (q : Fin 64), i = ix2 r q := ⟨i 0, i 1, eq_ix2 i⟩
  show out m c r q = value m c (ix2 r q)
  unfold value
  rw [softmaxRows_at]
  unfold out
  congr 1
  funext l
  rw [layers_at]
  unfold hEntry refH adj
  rw [V_main_arg2, bias1_at]
  simp only [hz]

/-! ## The algebraic claim -/

theorem algebraic : Cert.algebraic_KernelIdeal_ReferenceIdeal_pre_finite := fun m g m' g' hpre hargs => by
  refine ⟨value m, (θ_run _ _ _).mono (fun r h c => ⟨(h.1 c).trans (res_eq m hpre c), h.2.1 c⟩)
      (θ_run_and (Result.run m g) (frame_KernelIdeal m g trivial)),
    (θ_run _ _ _).mono (fun r h c => ⟨(h c).1.trans ?_, (h c).2⟩) (Cert.ReferenceIdeal.Value.run (F := Ideal) m' g')⟩
  obtain ⟨e0, -, e2, e3, e4, e5, e6⟩ := hargs c
  rw [result_eq, e0, e2, e3, e4, e5, e6]
  rfl

end Cert.Proof.Join

end
-- ==== Proof.lean ====
/-
  The claims of this directory, joined: each program's frame, that the idealized kernel is the printed kernel's own text, and that the
  idealized kernel and the idealized reference end with the same result.
-/
module

public import proofs.«01_k».proof.Defs
public import proofs.«01_k».proof.Proof.Frame
public import proofs.«01_k».proof.Proof.FrameIdeal
public import proofs.«01_k».proof.Proof.Join
public import proofs.«01_k».proof.Proof.Gen.ReferenceIdeal
public import proofs.«01_k».proof.Proof.Gen.Pre_finite
public import proofs.«01_k».proof.Proof.Gen.ReferenceIdeal.Run

@[expose] public section

noncomputable section

namespace Cert.Proof

open Idealize.ShloMosaic Idealize.SL.Sem

/-- The frame claim of `ReferenceIdeal`: a program of host operations that write no argument and name no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite.Gen.facts, frame_Kernel, frame_KernelIdeal, fun m ρ _ => frame_KernelIdeal m ρ trivial, frame_ReferenceIdeal,
  fun m ρ _ => frame_ReferenceIdeal m ρ trivial, trivial, Join.algebraic⟩

end Cert.Proof

end
